-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_ids_in_range_no_bias [hPre_ids_in_range_no_bias : Cert.Pre_ids_in_range_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_ids_in_range_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_no_bias [hPre_ids_in_range_no_bias : Cert.Pre_ids_in_range_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_ids_in_range_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ids_in_range_no_bias [hKernelIdeal : Cert.KernelIdeal.Facts] [hPre_ids_in_range_no_bias : Cert.Pre_ids_in_range_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_no_bias m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range_no_bias [hReferenceIdeal : Cert.ReferenceIdeal.Facts] [hPre_ids_in_range_no_bias : Cert.Pre_ids_in_range_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ids_in_range_no_bias [hKernelIdeal : Cert.KernelIdeal.Facts] [hReferenceIdeal : Cert.ReferenceIdeal.Facts] [hPre_ids_in_range_no_bias : Cert.Pre_ids_in_range_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_no_bias : Cert.Pre_ids_in_range_no_bias.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_no_bias (hKernelIdeal := hKernelIdeal) (hPre_ids_in_range_no_bias := hPre_ids_in_range_no_bias)
    ∧ quiescent_ReferenceIdeal (hReferenceIdeal := hReferenceIdeal)
    ∧ quiescent_ReferenceIdeal_pre_ids_in_range_no_bias (hReferenceIdeal := hReferenceIdeal) (hPre_ids_in_range_no_bias := hPre_ids_in_range_no_bias)
    ∧ preserves_Kernel_KernelIdeal
    ∧ algebraic_KernelIdeal_ReferenceIdeal_pre_ids_in_range_no_bias (hKernelIdeal := hKernelIdeal) (hReferenceIdeal := hReferenceIdeal) (hPre_ids_in_range_no_bias := hPre_ids_in_range_no_bias)
-- ==== Pre_ids_in_range.lean ====
abbrev S1024x200 : Shape := ⟨2, ![1024, 200]⟩
abbrev S1x64 : Shape := ⟨2, ![1, 64]⟩
abbrev S64 : Shape := ⟨1, ![64]⟩
abbrev S64x64 : Shape := ⟨2, ![64, 64]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : IVec S1024x200 32) (main_arg2 : FVec F S1x64 .f32) (main_arg3 : FVec F S64 .f32) (main_arg4 : FVec F S64x64 .f32) (main_arg5 : FVec F S64 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 32 := constantI S_ 32 0#32
  let main_v5 : IVec S1024x200 32 := broadcastInDim S1024x200 ![] bcast_S_S1024x200 main_c_1
  let main_v6 : IVec S1024x200 1 := cmpi .sge main_arg1 main_v5
  let main_v7 : IVec S1024x200 1 := andi main_v4 main_v6
  let main_c_2 : IVec S_ 32 := constantI S_ 32 1000#32
  let main_v8 : IVec S1024x200 32 := broadcastInDim S1024x200 ![] bcast_S_S1024x200 main_c_2
  let main_v9 : IVec S1024x200 1 := cmpi .slt main_arg1 main_v8
  let main_v10 : IVec S1024x200 1 := andi main_v7 main_v9
  main_v10
-- ==== Pre_ids_in_range_no_bias.lean ====
abbrev S1024x200 : Shape := ⟨2, ![1024, 200]⟩
abbrev S1x64 : Shape := ⟨2, ![1, 64]⟩
abbrev S64 : Shape := ⟨1, ![64]⟩
abbrev S64x64 : Shape := ⟨2, ![64, 64]⟩
abbrev S_ : Shape := ⟨0, ![]⟩

class Facts : Prop where
  bcast_S_S1024x200 : S_.BroadcastsInDim S1024x200 (![] : Fin 0 → Fin S1024x200.rank)
  bcast_S_S64 : S_.BroadcastsInDim S64 (![] : Fin 0 → Fin S64.rank)

variable [Facts]

def fn {F : FTy → Type} [FloatOps F] (main_arg0 : IVec S1024x200 32) (main_arg1 : IVec S1024x200 32) (main_arg2 : FVec F S1x64 .f32) (main_arg3 : FVec F S64 .f32) (main_arg4 : FVec F S64x64 .f32) (main_arg5 : FVec F S64 .f32) : IVec S1024x200 1 × IVec S64 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 32 := constantI S_ 32 0#32
  let main_v5 : IVec S1024x200 32 := broadcastInDim S1024x200 ![] bcast_S_S1024x200 main_c_1
  let main_v6 : IVec S1024x200 1 := cmpi .sge main_arg1 main_v5
  let main_v7 : IVec S1024x200 1 := andi main_v4 main_v6
  let main_c_2 : IVec S_ 32 := constantI S_ 32 1000#32
  let main_v8 : IVec S1024x200 32 := broadcastInDim S1024x200 ![] bcast_S_S1024x200 main_c_2
  let main_v9 : IVec S1024x200 1 := cmpi .slt main_arg1 main_v8
  let main_v10 : IVec S1024x200 1 := andi main_v7 main_v9
  let main_cst : FVec F S_ .f32 := constant S_ .f32 0x00000000#32
  let main_v11 : FVec F S64 .f32 := broadcastInDim S64 ![] bcast_S_S64 main_cst
  let main_v12 : IVec S64 1 := cmpf .oeq main_arg3 main_v11
  (main_v10, main_v12)
-- ==== Kernel.lean ====
abbrev S1024x200 : Shape := ⟨2, ![1024, 200]⟩
abbrev S1x64 : Shape := ⟨2, ![1, 64]⟩
abbrev S64 : Shape := ⟨1, ![64]⟩
abbrev S64x64 : Shape := ⟨2, ![64, 64]⟩
abbrev S8 : Shape := ⟨1, ![8]⟩
abbrev S_ : Shape := ⟨0, ![]⟩
abbrev S1024x8 : Shape := ⟨2, ![1024, 8]⟩
abbrev S1024x208 : Shape := ⟨2, ![1024, 208]⟩
abbrev S32x208 : Shape := ⟨2, ![32, 208]⟩
abbrev S1008 : Shape := ⟨1, ![1008]⟩
abbrev S16 : Shape := ⟨1, ![16]⟩
abbrev S1x16 : Shape := ⟨2, ![1, 16]⟩
abbrev S1x1024 : Shape := ⟨2, ![1, 1024]⟩
abbrev S47x1024 : Shape := ⟨2, ![47, 1024]⟩
abbrev S208x1024 : Shape := ⟨2, ![208, 1024]⟩
abbrev S256x1024 : Shape := ⟨2, ![256, 1024]⟩
abbrev S200x64x1024 : Shape := ⟨3, ![200, 64, 1024]⟩
abbrev S8x64x1024 : Shape := ⟨3, ![8, 64, 1024]⟩
abbrev S200x64x256 : Shape := ⟨3, ![200, 64, 256]⟩
abbrev S200x1x256 : Shape := ⟨3, ![200, 1, 256]⟩
abbrev S1x64x1 : Shape := ⟨3, ![1, 64, 1]⟩
abbrev S8x64x256 : Shape := ⟨3, ![8, 64, 256]⟩
abbrev S512x256 : Shape := ⟨2, ![512, 256]⟩
abbrev S512x1024 : Shape := ⟨2, ![512, 1024]⟩
abbrev S1024x200x64 : Shape := ⟨3, ![1024, 200, 64]⟩

abbrev nBuf : Table → Nat
  | .hbm => 27
  | .local .tc .vmem => 10
  | .local .scVector .vmem => 8
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S1024x8, .i32⟩
  | .hbm, ⟨11, _⟩ => ⟨S1024x208, .i32⟩
  | .hbm, ⟨12, _⟩ => ⟨S1024x208, .i32⟩
  | .hbm, ⟨13, _⟩ => ⟨S1024x208, .f32⟩
  | .hbm, ⟨14, _⟩ => ⟨S1024x208, .f32⟩
  | .hbm, ⟨15, _⟩ => ⟨S_, .f32⟩
  | .hbm, ⟨16, _⟩ => ⟨S1x1024, .f32⟩
  | .hbm, ⟨17, _⟩ => ⟨S_, .f32⟩
  | .hbm, ⟨18, _⟩ => ⟨S47x1024, .f32⟩
  | .hbm, ⟨19, _⟩ => ⟨S208x1024, .f32⟩
  | .hbm, ⟨20, _⟩ => ⟨S256x1024, .f32⟩
  | .hbm, ⟨21, _⟩ => ⟨S208x1024, .f32⟩
  | .hbm, ⟨22, _⟩ => ⟨S256x1024, .f32⟩
  | .hbm, ⟨23, _⟩ => ⟨S200x64x1024, .f32⟩
  | .hbm, ⟨24, _⟩ => ⟨S200x64x1024, .f32⟩
  | .hbm, ⟨25, _⟩ => ⟨S1024x200x64, .f32⟩
  | .hbm, ⟨26, _⟩ => ⟨S1024x200x64, .f32⟩
  | .local .tc .vmem, ⟨0, _⟩ => ⟨S1x64, .f32⟩
  | .local .tc .vmem, ⟨1, _⟩ => ⟨S64x64, .f32⟩
  | .local .tc .vmem, ⟨2, _⟩ => ⟨S64, .f32⟩
  | .local .tc .vmem, ⟨3, _⟩ => ⟨S256x1024, .f32⟩
  | .local .tc .vmem, ⟨4, _⟩ => ⟨S256x1024, .f32⟩
  | .local .tc .vmem, ⟨5, _⟩ => ⟨S8x64x1024, .f32⟩
  | .local .tc .vmem, ⟨6, _⟩ => ⟨S8x64x1024, .f32⟩
  | .local .tc .vmem, ⟨7, _⟩ => ⟨S8x64x1024, .f32⟩
  | .local .tc .vmem, ⟨8, _⟩ => ⟨S8x64x1024, .f32⟩
  | .local .tc .vmem, ⟨9, _⟩ => ⟨S200x64x256, .f32⟩
  | .local .scVector .vmem, ⟨0, _⟩ => ⟨S32x208, .i32⟩
  | .local .scVector .vmem, ⟨1, _⟩ => ⟨S32x208, .i32⟩
  | .local .scVector .vmem, ⟨2, _⟩ => ⟨S1008, .f32⟩
  | .local .scVector .vmem, ⟨3, _⟩ => ⟨S1008, .f32⟩
  | .local .scVector .vmem, ⟨4, _⟩ => ⟨S1008, .f32⟩
  | .local .scVector .vmem, ⟨5, _⟩ => ⟨S1008, .f32⟩
  | .local .scVector .vmem, ⟨6, _⟩ => ⟨S32x208, .f32⟩
  | .local .scVector .vmem, ⟨7, _⟩ => ⟨S32x208, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev main_v4_scv : Ref sig .scVector := ⟨.hbm, 11, rfl⟩
abbrev main_v5_scv : Ref sig .scVector := ⟨.hbm, 12, rfl⟩
abbrev main_v6_0_scv : Ref sig .scVector := ⟨.hbm, 13, rfl⟩
abbrev main_v6_1_scv : Ref sig .scVector := ⟨.hbm, 14, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg5_1 : Ref sig .tc := ⟨.vmem, 6, rfl⟩
abbrev cc1_stg6_0 : Ref sig .tc := ⟨.vmem, 7, rfl⟩
abbrev cc1_stg6_1 : Ref sig .tc := ⟨.vmem, 8, rfl⟩
abbrev cc1_scratch0 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7_r0 : BitVec 32 := 0#32
  ![v2.toNat, 0]
@[reducible] def k0_t1_loop : Scf.Loop 32 :=
  let c0_i32_1 : BitVec 32 := 0#32
  let c63_i32 : BitVec 32 := 63#32
  let v5 : BitVec 32 := Scalar.addi c0_i32_1 c63_i32
  let c1_i32 : BitVec 32 := 1#32
  ⟨c0_i32_1, v5, c1_i32⟩
def k0_off2 (k0_t1 : Fin k0_t1_loop.trips) : Fin 1 → Nat :=
  let c0_i32_1 : BitVec 32 := 0#32
  let c1_i32 : BitVec 32 := 1#32
  let arg14 : BitVec 32 := Scf.iv c0_i32_1 c1_i32 k0_t1
  let c16_i32_7 : BitVec 32 := 16#32
  let v7 : BitVec 32 := Scalar.muli arg14 c16_i32_7
  let v8 : Index := Scalar.indexCast v7
  ![v8.toNat]
@[reducible] def k0_t2_loop : Scf.Loop 32 :=
  let c0_i32_4 : BitVec 32 := 0#32
  let c16_i32 : BitVec 32 := 16#32
  let v6 : BitVec 32 := Scalar.addi c0_i32_4 c16_i32
  let c1_i32_5 : BitVec 32 := 1#32
  ⟨c0_i32_4, v6, c1_i32_5⟩
def k0_off3 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v9 : Index := Scalar.indexCast v8
  let c0 : Index := 0#32
  ![v9.toNat, 0]
def k0_off4 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v11 : Index := Scalar.indexCast v8
  let c16 : Index := 16#32
  ![v11.toNat, 16]
def k0_off5 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v13 : Index := Scalar.indexCast v8
  let c32 : Index := 32#32
  ![v13.toNat, 32]
def k0_off6 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v15 : Index := Scalar.indexCast v8
  let c48 : Index := 48#32
  ![v15.toNat, 48]
def k0_off7 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v17 : Index := Scalar.indexCast v8
  let c64 : Index := 64#32
  ![v17.toNat, 64]
def k0_off8 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v19 : Index := Scalar.indexCast v8
  let c80 : Index := 80#32
  ![v19.toNat, 80]
def k0_off9 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v21 : Index := Scalar.indexCast v8
  let c96 : Index := 96#32
  ![v21.toNat, 96]
def k0_off10 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v23 : Index := Scalar.indexCast v8
  let c112 : Index := 112#32
  ![v23.toNat, 112]
def k0_off11 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v25 : Index := Scalar.indexCast v8
  let c128 : Index := 128#32
  ![v25.toNat, 128]
def k0_off12 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v27 : Index := Scalar.indexCast v8
  let c144 : Index := 144#32
  ![v27.toNat, 144]
def k0_off13 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v29 : Index := Scalar.indexCast v8
  let c160 : Index := 160#32
  ![v29.toNat, 160]
def k0_off14 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v31 : Index := Scalar.indexCast v8
  let c176 : Index := 176#32
  ![v31.toNat, 176]
def k0_off15 (k0_t2 : Fin k0_t2_loop.trips) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let c0_i32_8 : BitVec 32 := 0#32
  let v8 : BitVec 32 := Scalar.addi v7 c0_i32_8
  let v33 : Index := Scalar.indexCast v8
  let c192 : Index := 192#32
  ![v33.toNat, 192]
def k0_off16 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v64 : Index := Scalar.indexCast v8
  let c0_22 : Index := 0#32
  ![v64.toNat, 0]
def k0_off17 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v74 : Index := Scalar.indexCast v8
  let c16_24 : Index := 16#32
  ![v74.toNat, 16]
def k0_off18 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v84 : Index := Scalar.indexCast v8
  let c32_26 : Index := 32#32
  ![v84.toNat, 32]
def k0_off19 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v94 : Index := Scalar.indexCast v8
  let c48_28 : Index := 48#32
  ![v94.toNat, 48]
def k0_off20 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v104 : Index := Scalar.indexCast v8
  let c64_30 : Index := 64#32
  ![v104.toNat, 64]
def k0_off21 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v114 : Index := Scalar.indexCast v8
  let c80_32 : Index := 80#32
  ![v114.toNat, 80]
def k0_off22 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v124 : Index := Scalar.indexCast v8
  let c96_34 : Index := 96#32
  ![v124.toNat, 96]
def k0_off23 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v134 : Index := Scalar.indexCast v8
  let c112_36 : Index := 112#32
  ![v134.toNat, 112]
def k0_off24 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v144 : Index := Scalar.indexCast v8
  let c128_38 : Index := 128#32
  ![v144.toNat, 128]
def k0_off25 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v154 : Index := Scalar.indexCast v8
  let c144_40 : Index := 144#32
  ![v154.toNat, 144]
def k0_off26 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v164 : Index := Scalar.indexCast v8
  let c160_42 : Index := 160#32
  ![v164.toNat, 160]
def k0_off27 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v174 : Index := Scalar.indexCast v8
  let c176_44 : Index := 176#32
  ![v174.toNat, 176]
def k0_off28 (k0_t2 : Fin k0_t2_loop.trips) (c0_i32_8 : BitVec 32) : Fin 2 → Nat :=
  let c2_i32_7 : BitVec 32 := 2#32
  let c0_i32_4 : BitVec 32 := 0#32
  let c1_i32_5 : BitVec 32 := 1#32
  let arg14 : BitVec 32 := Scf.iv c0_i32_4 c1_i32_5 k0_t2
  let v7 : BitVec 32 := Scalar.muli c2_i32_7 arg14
  let v8 : BitVec 32 := Scalar.addi v7 c0_i32_8
  let v184 : Index := Scalar.indexCast v8
  let c192_46 : Index := 192#32
  ![v184.toNat, 192]

def k0_chk1 (v10 : IVec S16 32) : Prop :=
  (∀ a x, ((![v10] : Fin 1 → IVec S16 32) a x).toNat < S1008.size a) ∧
  (∀ a x, ((![v10] : Fin 1 → IVec S16 32) a x).toNat < S1008.size a) ∧
  (∀ a x, ((![v10] : Fin 1 → IVec S16 32) a x).toNat < S1008.size a) ∧
  (∀ a x, ((![v10] : Fin 1 → IVec S16 32) a x).toNat < S1008.size a)
theorem k0_idx1_inb : ∀ (v10 : IVec S16 32) (k0_hw1 : k0_chk1 v10), ∀ a x, ((![v10] : Fin 1 → IVec S16 32) a x).toNat < S1008.size a := fun v10 k0_hw1 => k0_hw1.1
theorem k0_idx27_inb : ∀ (v10 : IVec S16 32) (k0_hw1 : k0_chk1 v10), ∀ a x, ((![v10] : Fin 1 → IVec S16 32) a x).toNat < S1008.size a := fun v10 k0_hw1 => k0_hw1.2.1
theorem k0_idx28_inb : ∀ (v10 : IVec S16 32) (k0_hw1 : k0_chk1 v10), ∀ a x, ((![v10] : Fin 1 → IVec S16 32) a x).toNat < S1008.size a := fun v10 k0_hw1 => k0_hw1.2.2.1
theorem k0_idx79_inb : ∀ (v10 : IVec S16 32) (k0_hw1 : k0_chk1 v10), ∀ a x, ((![v10] : Fin 1 → IVec S16 32) a x).toNat < S1008.size a := fun v10 k0_hw1 => k0_hw1.2.2.2

def k0_chk2 (v36 : IVec S16 32) : Prop :=
  (∀ a x, ((![v36] : Fin 1 → IVec S16 32) a x).toNat < S1008.size a) ∧
  (∀ a x, ((![v36] : Fin 1 → IVec S16 32) a x).toNat < S1008.size a) ∧
  (∀ a x, ((![v36] : Fin 1 → IVec S16 32) a x).toNat < S1008.size a) ∧
  (∀ a x, ((![v36] : Fin 1 → IVec S16 32) a x).toNat < S1008.size a)
theorem k0_idx2_inb : ∀ (v36 : IVec S16 32) (k0_hw2 : k0_chk2 v36), ∀ a x, ((![v36] : Fin 1 → IVec S16 32) a x).toNat < S1008.size a := fun v36 k0_hw2 => k0_hw2.1
theorem k0_idx29_inb : ∀ (v36 : IVec S16 32) (k0_hw2 : k0_chk2 v36), ∀ a x, ((![v36] : Fin 1 → IVec S16 32) a x).toNat < S1008.size a := fun v36 k0_hw2 => k0_hw2.2.1
theorem k0_idx30_inb : ∀ (v36 : IVec S16 32) (k0_hw2 : k0_chk2 v36), ∀ a x, ((![v36] : Fin 1 → IVec S16 32) a x).toNat < S1008.size a := fun v36 k0_hw2 => k0_hw2.2.2.1
theorem k0_idx80_inb : ∀ (v36 : IVec S16 32) (k0_hw2 : k0_chk2 v36), ∀ a x, ((![v36] : Fin 1 → IVec S16 32) a x).toNat < S1008.size a := fun v36 k0_hw2 => k0_hw2.2.2.2

def k0_chk3 (v12 : IVec S16 32) : Prop :=
  (∀ a x, ((![v12] : Fin 1 → IVec S16 32) a x).toNat < S1008.size a) ∧
  (∀ a x, ((![v12] : Fin 1 → IVec S16 32) a x).toNat < S1008.size a) ∧
  (∀ a x, ((![v12] : Fin 1 → IVec S16 32) a x).toNat < S1008.size a) ∧
  (∀ a x, ((![v12] : Fin 1 → IVec S16 32) a x).toNat < S1008.size a)
theorem k0_idx3_inb : ∀ (v12 : IVec S16 32) (k0_hw3 : k0_chk3 v12), ∀ a x, ((![v12] : Fin 1 → IVec S16 32) a x).toNat < S1008.size a := fun v12 k0_hw3 => k0_hw3.1
theorem k0_idx31_inb : ∀ (v12 : IVec S16 32) (k0_hw3 : k0_chk3 v12), ∀ a x, ((![v12] : Fin 1 → IVec S16 32) a x).toNat < S1008.size a := fun v12 k0_hw3 => k0_hw3.2.1
theorem k0_idx32_inb : ∀ (v12 : IVec S16 32) (k0_hw3 : k0_chk3 v12), ∀ a x, ((![v12] : Fin 1 → IVec S16 32) a x).toNat < S1008.size a := fun v12 k0_hw3 => k0_hw3.2.2.1
theorem k0_idx81_inb : ∀ (v12 : IVec S16 32) (k0_hw3 : k0_chk3 v12), ∀ a x, ((![v12] : Fin 1 → IVec S16 32) a x).toNat < S1008.size a := fun v12 k0_hw3 => k0_hw3.2.2.2

def k0_chk4 (v38 : IVec S16 32) : Prop :=
  (∀ a x, ((![v38] : Fin 1 → IVec S16 32) a x).toNat < S1008.size a) ∧
  (∀ a x, ((![v38] : Fin 1 → IVec S16 32) a x).toNat < S1008.size a) ∧
  (∀ a x, ((![v38] : Fin 1 → IVec S16 32) a x).toNat < S1008.size a) ∧
  (∀ a x, ((![v38] : Fin 1 → IVec S16 32) a x).toNat < S1008.size a)
theorem k0_idx4_inb : ∀ (v38 : IVec S16 32) (k0_hw4 : k0_chk4 v38), ∀ a x, ((![v38] : Fin 1 → IVec S16 32) a x).toNat < S1008.size a := fun v38 k0_hw4 => k0_hw4.1
theorem k0_idx33_inb : ∀ (v38 : IVec S16 32) (k0_hw4 : k0_chk4 v38), ∀ a x, ((![v38] : Fin 1 → IVec S16 32) a x).toNat < S1008.size a := fun v38 k0_hw4 => k0_hw4.2.1
theorem k0_idx34_inb : ∀ (v38 : IVec S16 32) (k0_hw4 : k0_chk4 v38), ∀ a x, ((![v38] : Fin 1 → IVec S16 32) a x).toNat < S1008.size a := fun v38 k0_hw4 => k0_hw4.2.2.1
theorem k0_idx82_inb : ∀ (v38 : IVec S16 32) (k0_hw4 : k0_chk4 v38), ∀ a x, ((![v38] : Fin 1 → IVec S16 32) a x).toNat < S1008.size a := fun v38 k0_hw4 => k0_hw4.2.2.2

def k0_chk5 (v14 : IVec S16 32) : Prop :=
  (∀ a x, ((![v14] : Fin 1 → IVec S16 32) a x).toNat < S1008.size a) ∧
  (∀ a x, ((![v14] : Fin 1 → IVec S16 32) a x).toNat < S1008.size a) ∧
  (∀ a x, ((![v14] : Fin 1 → IVec S16 32) a x).toNat < S1008.size a) ∧
  (∀ a x, ((![v14] : Fin 1 → IVec S16 32) a x).toNat < S1008.size a)
theorem k0_idx5_inb : ∀ (v14 : IVec S16 32) (k0_hw5 : k0_chk5 v14), ∀ a x, ((![v14] : Fin 1 → IVec S16 32) a x).toNat < S1008.size a := fun v14 k0_hw5 => k0_hw5.1
theorem k0_idx35_inb : ∀ (v14 : IVec S16 32) (k0_hw5 : k0_chk5 v14), ∀ a x, ((![v14] : Fin 1 → IVec S16 32) a x).toNat < S1008.size a := fun v14 k0_hw5 => k0_hw5.2.1
theorem k0_idx36_inb : ∀ (v14 : IVec S16 32) (k0_hw5 : k0_chk5 v14), ∀ a x, ((![v14] : Fin 1 → IVec S16 32) a x).toNat < S1008.size a := fun v14 k0_hw5 => k0_hw5.2.2.1
theorem k0_idx83_inb : ∀ (v14 : IVec S16 32) (k0_hw5 : k0_chk5 v14), ∀ a x, ((![v14] : Fin 1 → IVec S16 32) a x).toNat < S1008.size a := fun v14 k0_hw5 => k0_hw5.2.2.2

def k0_chk6 (v40 : IVec S16 32) : Prop :=
  (∀ a x, ((![v40] : Fin 1 → IVec S16 32) a x).toNat < S1008.size a) ∧
  (∀ a x, ((![v40] : Fin 1 → IVec S16 32) a x).toNat < S1008.size a) ∧
  (∀ a x, ((![v40] : Fin 1 → IVec S16 32) a x).toNat < S1008.size a) ∧
  (∀ a x, ((![v40] : Fin 1 → IVec S16 32) a x).toNat < S1008.size a)
theorem k0_idx6_inb : ∀ (v40 : IVec S16 32) (k0_hw6 : k0_chk6 v40), ∀ a x, ((![v40] : Fin 1 → IVec S16 32) a x).toNat < S1008.size a := fun v40 k0_hw6 => k0_hw6.1
theorem k0_idx37_inb : ∀ (v40 : IVec S16 32) (k0_hw6 : k0_chk6 v40), ∀ a x, ((![v40] : Fin 1 → IVec S16 32) a x).toNat < S1008.size a := fun v40 k0_hw6 => k0_hw6.2.1
theorem k0_idx38_inb : ∀ (v40 : IVec S16 32) (k0_hw6 : k0_chk6 v40), ∀ a x, ((![v40] : Fin 1 → IVec S16 32) a x).toNat < S1008.size a := fun v40 k0_hw6 => k0_hw6.2.2.1
theorem k0_idx84_inb : ∀ (v40 : IVec S16 32) (k0_hw6 : k0_chk6 v40), ∀ a x, ((![v40] : Fin 1 → IVec S16 32) a x).toNat < S1008.size a := fun v40 k0_hw6 => k0_hw6.2.2.2

def k0_chk7 (v16 : IVec S16 32) : Prop :=
  (∀ a x, ((![v16] : Fin 1 → IVec S16 32) a x).toNat < S1008.size a) ∧
  (∀ a x, ((![v16] : Fin 1 → IVec S16 32) a x).toNat < S1008.size a) ∧
  (∀ a x, ((![v16] : Fin 1 → IVec S16 32) a x).toNat < S1008.size a) ∧
  (∀ a x, ((![v16] : Fin 1 → IVec S16 32) a x).toNat < S1008.size a)
theorem k0_idx7_inb : ∀ (v16 : IVec S16 32) (k0_hw7 : k0_chk7 v16), ∀ a x, ((![v16] : Fin 1 → IVec S16 32) a x).toNat < S1008.size a := fun v16 k0_hw7 => k0_hw7.1
theorem k0_idx39_inb : ∀ (v16 : IVec S16 32) (k0_hw7 : k0_chk7 v16), ∀ a x, ((![v16] : Fin 1 → IVec S16 32) a x).toNat < S1008.size a := fun v16 k0_hw7 => k0_hw7.2.1
theorem k0_idx40_inb : ∀ (v16 : IVec S16 32) (k0_hw7 : k0_chk7 v16), ∀ a x, ((![v16] : Fin 1 → IVec S16 32) a x).toNat < S1008.size a := fun v16 k0_hw7 => k0_hw7.2.2.1
theorem k0_idx85_inb : ∀ (v16 : IVec S16 32) (k0_hw7 : k0_chk7 v16), ∀ a x, ((![v16] : Fin 1 → IVec S16 32) a x).toNat < S1008.size a := fun v16 k0_hw7 => k0_hw7.2.2.2

def k0_chk8 (v42 : IVec S16 32) : Prop :=
  (∀ a x, ((![v42] : Fin 1 → IVec S16 32) a x).toNat < S1008.size a) ∧
  (∀ a x, ((![v42] : Fin 1 → IVec S16 32) a x).toNat < S1008.size a) ∧
  (∀ a x, ((![v42] : Fin 1 → IVec S16 32) a x).toNat < S1008.size a) ∧
  (∀ a x, ((![v42] : Fin 1 → IVec S16 32) a x).toNat < S1008.size a)
theorem k0_idx8_inb : ∀ (v42 : IVec S16 32) (k0_hw8 : k0_chk8 v42), ∀ a x, ((![v42] : Fin 1 → IVec S16 32) a x).toNat < S1008.size a := fun v42 k0_hw8 => k0_hw8.1
theorem k0_idx41_inb : ∀ (v42 : IVec S16 32) (k0_hw8 : k0_chk8 v42), ∀ a x, ((![v42] : Fin 1 → IVec S16 32) a x).toNat < S1008.size a := fun v42 k0_hw8 => k0_hw8.2.1
theorem k0_idx42_inb : ∀ (v42 : IVec S16 32) (k0_hw8 : k0_chk8 v42), ∀ a x, ((![v42] : Fin 1 → IVec S16 32) a x).toNat < S1008.size a := fun v42 k0_hw8 => k0_hw8.2.2.1
theorem k0_idx86_inb : ∀ (v42 : IVec S16 32) (k0_hw8 : k0_chk8 v42), ∀ a x, ((![v42] : Fin 1 → IVec S16 32) a x).toNat < S1008.size a := fun v42 k0_hw8 => k0_hw8.2.2.2

def k0_chk9 (v18 : IVec S16 32) : Prop :=
  (∀ a x, ((![v18] : Fin 1 → IVec S16 32) a x).toNat < S1008.size a) ∧
  (∀ a x, ((![v18] : Fin 1 → IVec S16 32) a x).toNat < S1008.size a) ∧
  (∀ a x, ((![v18] : Fin 1 → IVec S16 32) a x).toNat < S1008.size a) ∧
  (∀ a x, ((![v18] : Fin 1 → IVec S16 32) a x).toNat < S1008.size a)
theorem k0_idx9_inb : ∀ (v18 : IVec S16 32) (k0_hw9 : k0_chk9 v18), ∀ a x, ((![v18] : Fin 1 → IVec S16 32) a x).toNat < S1008.size a := fun v18 k0_hw9 => k0_hw9.1
theorem k0_idx43_inb : ∀ (v18 : IVec S16 32) (k0_hw9 : k0_chk9 v18), ∀ a x, ((![v18] : Fin 1 → IVec S16 32) a x).toNat < S1008.size a := fun v18 k0_hw9 => k0_hw9.2.1
theorem k0_idx44_inb : ∀ (v18 : IVec S16 32) (k0_hw9 : k0_chk9 v18), ∀ a x, ((![v18] : Fin 1 → IVec S16 32) a x).toNat < S1008.size a := fun v18 k0_hw9 => k0_hw9.2.2.1
theorem k0_idx87_inb : ∀ (v18 : IVec S16 32) (k0_hw9 : k0_chk9 v18), ∀ a x, ((![v18] : Fin 1 → IVec S16 32) a x).toNat < S1008.size a := fun v18 k0_hw9 => k0_hw9.2.2.2

def k0_chk10 (v44 : IVec S16 32) : Prop :=
  (∀ a x, ((![v44] : Fin 1 → IVec S16 32) a x).toNat < S1008.size a) ∧
  (∀ a x, ((![v44] : Fin 1 → IVec S16 32) a x).toNat < S1008.size a) ∧
  (∀ a x, ((![v44] : Fin 1 → IVec S16 32) a x).toNat < S1008.size a) ∧
  (∀ a x, ((![v44] : Fin 1 → IVec S16 32) a x).toNat < S1008.size a)
theorem k0_idx10_inb : ∀ (v44 : IVec S16 32) (k0_hw10 : k0_chk10 v44), ∀ a x, ((![v44] : Fin 1 → IVec S16 32) a x).toNat < S1008.size a := fun v44 k0_hw10 => k0_hw10.1
theorem k0_idx45_inb : ∀ (v44 : IVec S16 32) (k0_hw10 : k0_chk10 v44), ∀ a x, ((![v44] : Fin 1 → IVec S16 32) a x).toNat < S1008.size a := fun v44 k0_hw10 => k0_hw10.2.1
theorem k0_idx46_inb : ∀ (v44 : IVec S16 32) (k0_hw10 : k0_chk10 v44), ∀ a x, ((![v44] : Fin 1 → IVec S16 32) a x).toNat < S1008.size a := fun v44 k0_hw10 => k0_hw10.2.2.1
theorem k0_idx88_inb : ∀ (v44 : IVec S16 32) (k0_hw10 : k0_chk10 v44), ∀ a x, ((![v44] : Fin 1 → IVec S16 32) a x).toNat < S1008.size a := fun v44 k0_hw10 => k0_hw10.2.2.2

def k0_chk11 (v20 : IVec S16 32) : Prop :=
  (∀ a x, ((![v20] : Fin 1 → IVec S16 32) a x).toNat < S1008.size a) ∧
  (∀ a x, ((![v20] : Fin 1 → IVec S16 32) a x).toNat < S1008.size a) ∧
  (∀ a x, ((![v20] : Fin 1 → IVec S16 32) a x).toNat < S1008.size a) ∧
  (∀ a x, ((![v20] : Fin 1 → IVec S16 32) a x).toNat < S1008.size a)
theorem k0_idx11_inb : ∀ (v20 : IVec S16 32) (k0_hw11 : k0_chk11 v20), ∀ a x, ((![v20] : Fin 1 → IVec S16 32) a x).toNat < S1008.size a := fun v20 k0_hw11 => k0_hw11.1
theorem k0_idx47_inb : ∀ (v20 : IVec S16 32) (k0_hw11 : k0_chk11 v20), ∀ a x, ((![v20] : Fin 1 → IVec S16 32) a x).toNat < S1008.size a := fun v20 k0_hw11 => k0_hw11.2.1
theorem k0_idx48_inb : ∀ (v20 : IVec S16 32) (k0_hw11 : k0_chk11 v20), ∀ a x, ((![v20] : Fin 1 → IVec S16 32) a x).toNat < S1008.size a := fun v20 k0_hw11 => k0_hw11.2.2.1
theorem k0_idx89_inb : ∀ (v20 : IVec S16 32) (k0_hw11 : k0_chk11 v20), ∀ a x, ((![v20] : Fin 1 → IVec S16 32) a x).toNat < S1008.size a := fun v20 k0_hw11 => k0_hw11.2.2.2

def k0_chk12 (v46 : IVec S16 32) : Prop :=
  (∀ a x, ((![v46] : Fin 1 → IVec S16 32) a x).toNat < S1008.size a) ∧
  (∀ a x, ((![v46] : Fin 1 → IVec S16 32) a x).toNat < S1008.size a) ∧
  (∀ a x, ((![v46] : Fin 1 → IVec S16 32) a x).toNat < S1008.size a) ∧
  (∀ a x, ((![v46] : Fin 1 → IVec S16 32) a x).toNat < S1008.size a)
theorem k0_idx12_inb : ∀ (v46 : IVec S16 32) (k0_hw12 : k0_chk12 v46), ∀ a x, ((![v46] : Fin 1 → IVec S16 32) a x).toNat < S1008.size a := fun v46 k0_hw12 => k0_hw12.1
theorem k0_idx49_inb : ∀ (v46 : IVec S16 32) (k0_hw12 : k0_chk12 v46), ∀ a x, ((![v46] : Fin 1 → IVec S16 32) a x).toNat < S1008.size a := fun v46 k0_hw12 => k0_hw12.2.1
theorem k0_idx50_inb : ∀ (v46 : IVec S16 32) (k0_hw12 : k0_chk12 v46), ∀ a x, ((![v46] : Fin 1 → IVec S16 32) a x).toNat < S1008.size a := fun v46 k0_hw12 => k0_hw12.2.2.1
theorem k0_idx90_inb : ∀ (v46 : IVec S16 32) (k0_hw12 : k0_chk12 v46), ∀ a x, ((![v46] : Fin 1 → IVec S16 32) a x).toNat < S1008.size a := fun v46 k0_hw12 => k0_hw12.2.2.2

def k0_chk13 (v22 : IVec S16 32) : Prop :=
  (∀ a x, ((![v22] : Fin 1 → IVec S16 32) a x).toNat < S1008.size a) ∧
  (∀ a x, ((![v22] : Fin 1 → IVec S16 32) a x).toNat < S1008.size a) ∧
  (∀ a x, ((![v22] : Fin 1 → IVec S16 32) a x).toNat < S1008.size a) ∧
  (∀ a x, ((![v22] : Fin 1 → IVec S16 32) a x).toNat < S1008.size a)
theorem k0_idx13_inb : ∀ (v22 : IVec S16 32) (k0_hw13 : k0_chk13 v22), ∀ a x, ((![v22] : Fin 1 → IVec S16 32) a x).toNat < S1008.size a := fun v22 k0_hw13 => k0_hw13.1
theorem k0_idx51_inb : ∀ (v22 : IVec S16 32) (k0_hw13 : k0_chk13 v22), ∀ a x, ((![v22] : Fin 1 → IVec S16 32) a x).toNat < S1008.size a := fun v22 k0_hw13 => k0_hw13.2.1
theorem k0_idx52_inb : ∀ (v22 : IVec S16 32) (k0_hw13 : k0_chk13 v22), ∀ a x, ((![v22] : Fin 1 → IVec S16 32) a x).toNat < S1008.size a := fun v22 k0_hw13 => k0_hw13.2.2.1
theorem k0_idx91_inb : ∀ (v22 : IVec S16 32) (k0_hw13 : k0_chk13 v22), ∀ a x, ((![v22] : Fin 1 → IVec S16 32) a x).toNat < S1008.size a := fun v22 k0_hw13 => k0_hw13.2.2.2

def k0_chk14 (v48 : IVec S16 32) : Prop :=
  (∀ a x, ((![v48] : Fin 1 → IVec S16 32) a x).toNat < S1008.size a) ∧
  (∀ a x, ((![v48] : Fin 1 → IVec S16 32) a x).toNat < S1008.size a) ∧
  (∀ a x, ((![v48] : Fin 1 → IVec S16 32) a x).toNat < S1008.size a) ∧
  (∀ a x, ((![v48] : Fin 1 → IVec S16 32) a x).toNat < S1008.size a)
theorem k0_idx14_inb : ∀ (v48 : IVec S16 32) (k0_hw14 : k0_chk14 v48), ∀ a x, ((![v48] : Fin 1 → IVec S16 32) a x).toNat < S1008.size a := fun v48 k0_hw14 => k0_hw14.1
theorem k0_idx53_inb : ∀ (v48 : IVec S16 32) (k0_hw14 : k0_chk14 v48), ∀ a x, ((![v48] : Fin 1 → IVec S16 32) a x).toNat < S1008.size a := fun v48 k0_hw14 => k0_hw14.2.1
theorem k0_idx54_inb : ∀ (v48 : IVec S16 32) (k0_hw14 : k0_chk14 v48), ∀ a x, ((![v48] : Fin 1 → IVec S16 32) a x).toNat < S1008.size a := fun v48 k0_hw14 => k0_hw14.2.2.1
theorem k0_idx92_inb : ∀ (v48 : IVec S16 32) (k0_hw14 : k0_chk14 v48), ∀ a x, ((![v48] : Fin 1 → IVec S16 32) a x).toNat < S1008.size a := fun v48 k0_hw14 => k0_hw14.2.2.2

def k0_chk15 (v24 : IVec S16 32) : Prop :=
  (∀ a x, ((![v24] : Fin 1 → IVec S16 32) a x).toNat < S1008.size a) ∧
  (∀ a x, ((![v24] : Fin 1 → IVec S16 32) a x).toNat < S1008.size a) ∧
  (∀ a x, ((![v24] : Fin 1 → IVec S16 32) a x).toNat < S1008.size a) ∧
  (∀ a x, ((![v24] : Fin 1 → IVec S16 32) a x).toNat < S1008.size a)
theorem k0_idx15_inb : ∀ (v24 : IVec S16 32) (k0_hw15 : k0_chk15 v24), ∀ a x, ((![v24] : Fin 1 → IVec S16 32) a x).toNat < S1008.size a := fun v24 k0_hw15 => k0_hw15.1
theorem k0_idx55_inb : ∀ (v24 : IVec S16 32) (k0_hw15 : k0_chk15 v24), ∀ a x, ((![v24] : Fin 1 → IVec S16 32) a x).toNat < S1008.size a := fun v24 k0_hw15 => k0_hw15.2.1
theorem k0_idx56_inb : ∀ (v24 : IVec S16 32) (k0_hw15 : k0_chk15 v24), ∀ a x, ((![v24] : Fin 1 → IVec S16 32) a x).toNat < S1008.size a := fun v24 k0_hw15 => k0_hw15.2.2.1
theorem k0_idx93_inb : ∀ (v24 : IVec S16 32) (k0_hw15 : k0_chk15 v24), ∀ a x, ((![v24] : Fin 1 → IVec S16 32) a x).toNat < S1008.size a := fun v24 k0_hw15 => k0_hw15.2.2.2

def k0_chk16 (v50 : IVec S16 32) : Prop :=
  (∀ a x, ((![v50] : Fin 1 → IVec S16 32) a x).toNat < S1008.size a) ∧
  (∀ a x, ((![v50] : Fin 1 → IVec S16 32) a x).toNat < S1008.size a) ∧
  (∀ a x, ((![v50] : Fin 1 → IVec S16 32) a x).toNat < S1008.size a) ∧
  (∀ a x, ((![v50] : Fin 1 → IVec S16 32) a x).toNat < S1008.size a)
theorem k0_idx16_inb : ∀ (v50 : IVec S16 32) (k0_hw16 : k0_chk16 v50), ∀ a x, ((![v50] : Fin 1 → IVec S16 32) a x).toNat < S1008.size a := fun v50 k0_hw16 => k0_hw16.1
theorem k0_idx57_inb : ∀ (v50 : IVec S16 32) (k0_hw16 : k0_chk16 v50), ∀ a x, ((![v50] : Fin 1 → IVec S16 32) a x).toNat < S1008.size a := fun v50 k0_hw16 => k0_hw16.2.1
theorem k0_idx58_inb : ∀ (v50 : IVec S16 32) (k0_hw16 : k0_chk16 v50), ∀ a x, ((![v50] : Fin 1 → IVec S16 32) a x).toNat < S1008.size a := fun v50 k0_hw16 => k0_hw16.2.2.1
theorem k0_idx94_inb : ∀ (v50 : IVec S16 32) (k0_hw16 : k0_chk16 v50), ∀ a x, ((![v50] : Fin 1 → IVec S16 32) a x).toNat < S1008.size a := fun v50 k0_hw16 => k0_hw16.2.2.2

def k0_chk17 (v26 : IVec S16 32) : Prop :=
  (∀ a x, ((![v26] : Fin 1 → IVec S16 32) a x).toNat < S1008.size a) ∧
  (∀ a x, ((![v26] : Fin 1 → IVec S16 32) a x).toNat < S1008.size a) ∧
  (∀ a x, ((![v26] : Fin 1 → IVec S16 32) a x).toNat < S1008.size a) ∧
  (∀ a x, ((![v26] : Fin 1 → IVec S16 32) a x).toNat < S1008.size a)
theorem k0_idx17_inb : ∀ (v26 : IVec S16 32) (k0_hw17 : k0_chk17 v26), ∀ a x, ((![v26] : Fin 1 → IVec S16 32) a x).toNat < S1008.size a := fun v26 k0_hw17 => k0_hw17.1
theorem k0_idx59_inb : ∀ (v26 : IVec S16 32) (k0_hw17 : k0_chk17 v26), ∀ a x, ((![v26] : Fin 1 → IVec S16 32) a x).toNat < S1008.size a := fun v26 k0_hw17 => k0_hw17.2.1
theorem k0_idx60_inb : ∀ (v26 : IVec S16 32) (k0_hw17 : k0_chk17 v26), ∀ a x, ((![v26] : Fin 1 → IVec S16 32) a x).toNat < S1008.size a := fun v26 k0_hw17 => k0_hw17.2.2.1
theorem k0_idx95_inb : ∀ (v26 : IVec S16 32) (k0_hw17 : k0_chk17 v26), ∀ a x, ((![v26] : Fin 1 → IVec S16 32) a x).toNat < S1008.size a := fun v26 k0_hw17 => k0_hw17.2.2.2

def k0_chk18 (v52 : IVec S16 32) : Prop :=
  (∀ a x, ((![v52] : Fin 1 → IVec S16 32) a x).toNat < S1008.size a) ∧
  (∀ a x, ((![v52] : Fin 1 → IVec S16 32) a x).toNat < S1008.size a) ∧
  (∀ a x, ((![v52] : Fin 1 → IVec S16 32) a x).toNat < S1008.size a) ∧
  (∀ a x, ((![v52] : Fin 1 → IVec S16 32) a x).toNat < S1008.size a)
theorem k0_idx18_inb : ∀ (v52 : IVec S16 32) (k0_hw18 : k0_chk18 v52), ∀ a x, ((![v52] : Fin 1 → IVec S16 32) a x).toNat < S1008.size a := fun v52 k0_hw18 => k0_hw18.1
theorem k0_idx61_inb : ∀ (v52 : IVec S16 32) (k0_hw18 : k0_chk18 v52), ∀ a x, ((![v52] : Fin 1 → IVec S16 32) a x).toNat < S1008.size a := fun v52 k0_hw18 => k0_hw18.2.1
theorem k0_idx62_inb : ∀ (v52 : IVec S16 32) (k0_hw18 : k0_chk18 v52), ∀ a x, ((![v52] : Fin 1 → IVec S16 32) a x).toNat < S1008.size a := fun v52 k0_hw18 => k0_hw18.2.2.1
theorem k0_idx96_inb : ∀ (v52 : IVec S16 32) (k0_hw18 : k0_chk18 v52), ∀ a x, ((![v52] : Fin 1 → IVec S16 32) a x).toNat < S1008.size a := fun v52 k0_hw18 => k0_hw18.2.2.2

def k0_chk19 (v28 : IVec S16 32) : Prop :=
  (∀ a x, ((![v28] : Fin 1 → IVec S16 32) a x).toNat < S1008.size a) ∧
  (∀ a x, ((![v28] : Fin 1 → IVec S16 32) a x).toNat < S1008.size a) ∧
  (∀ a x, ((![v28] : Fin 1 → IVec S16 32) a x).toNat < S1008.size a) ∧
  (∀ a x, ((![v28] : Fin 1 → IVec S16 32) a x).toNat < S1008.size a)
theorem k0_idx19_inb : ∀ (v28 : IVec S16 32) (k0_hw19 : k0_chk19 v28), ∀ a x, ((![v28] : Fin 1 → IVec S16 32) a x).toNat < S1008.size a := fun v28 k0_hw19 => k0_hw19.1
theorem k0_idx63_inb : ∀ (v28 : IVec S16 32) (k0_hw19 : k0_chk19 v28), ∀ a x, ((![v28] : Fin 1 → IVec S16 32) a x).toNat < S1008.size a := fun v28 k0_hw19 => k0_hw19.2.1
theorem k0_idx64_inb : ∀ (v28 : IVec S16 32) (k0_hw19 : k0_chk19 v28), ∀ a x, ((![v28] : Fin 1 → IVec S16 32) a x).toNat < S1008.size a := fun v28 k0_hw19 => k0_hw19.2.2.1
theorem k0_idx97_inb : ∀ (v28 : IVec S16 32) (k0_hw19 : k0_chk19 v28), ∀ a x, ((![v28] : Fin 1 → IVec S16 32) a x).toNat < S1008.size a := fun v28 k0_hw19 => k0_hw19.2.2.2

def k0_chk20 (v54 : IVec S16 32) : Prop :=
  (∀ a x, ((![v54] : Fin 1 → IVec S16 32) a x).toNat < S1008.size a) ∧
  (∀ a x, ((![v54] : Fin 1 → IVec S16 32) a x).toNat < S1008.size a) ∧
  (∀ a x, ((![v54] : Fin 1 → IVec S16 32) a x).toNat < S1008.size a) ∧
  (∀ a x, ((![v54] : Fin 1 → IVec S16 32) a x).toNat < S1008.size a)
theorem k0_idx20_inb : ∀ (v54 : IVec S16 32) (k0_hw20 : k0_chk20 v54), ∀ a x, ((![v54] : Fin 1 → IVec S16 32) a x).toNat < S1008.size a := fun v54 k0_hw20 => k0_hw20.1
theorem k0_idx65_inb : ∀ (v54 : IVec S16 32) (k0_hw20 : k0_chk20 v54), ∀ a x, ((![v54] : Fin 1 → IVec S16 32) a x).toNat < S1008.size a := fun v54 k0_hw20 => k0_hw20.2.1
theorem k0_idx66_inb : ∀ (v54 : IVec S16 32) (k0_hw20 : k0_chk20 v54), ∀ a x, ((![v54] : Fin 1 → IVec S16 32) a x).toNat < S1008.size a := fun v54 k0_hw20 => k0_hw20.2.2.1
theorem k0_idx98_inb : ∀ (v54 : IVec S16 32) (k0_hw20 : k0_chk20 v54), ∀ a x, ((![v54] : Fin 1 → IVec S16 32) a x).toNat < S1008.size a := fun v54 k0_hw20 => k0_hw20.2.2.2

def k0_chk21 (v30 : IVec S16 32) : Prop :=
  (∀ a x, ((![v30] : Fin 1 → IVec S16 32) a x).toNat < S1008.size a) ∧
  (∀ a x, ((![v30] : Fin 1 → IVec S16 32) a x).toNat < S1008.size a) ∧
  (∀ a x, ((![v30] : Fin 1 → IVec S16 32) a x).toNat < S1008.size a) ∧
  (∀ a x, ((![v30] : Fin 1 → IVec S16 32) a x).toNat < S1008.size a)
theorem k0_idx21_inb : ∀ (v30 : IVec S16 32) (k0_hw21 : k0_chk21 v30), ∀ a x, ((![v30] : Fin 1 → IVec S16 32) a x).toNat < S1008.size a := fun v30 k0_hw21 => k0_hw21.1
theorem k0_idx67_inb : ∀ (v30 : IVec S16 32) (k0_hw21 : k0_chk21 v30), ∀ a x, ((![v30] : Fin 1 → IVec S16 32) a x).toNat < S1008.size a := fun v30 k0_hw21 => k0_hw21.2.1
theorem k0_idx68_inb : ∀ (v30 : IVec S16 32) (k0_hw21 : k0_chk21 v30), ∀ a x, ((![v30] : Fin 1 → IVec S16 32) a x).toNat < S1008.size a := fun v30 k0_hw21 => k0_hw21.2.2.1
theorem k0_idx99_inb : ∀ (v30 : IVec S16 32) (k0_hw21 : k0_chk21 v30), ∀ a x, ((![v30] : Fin 1 → IVec S16 32) a x).toNat < S1008.size a := fun v30 k0_hw21 => k0_hw21.2.2.2

def k0_chk22 (v56 : IVec S16 32) : Prop :=
  (∀ a x, ((![v56] : Fin 1 → IVec S16 32) a x).toNat < S1008.size a) ∧
  (∀ a x, ((![v56] : Fin 1 → IVec S16 32) a x).toNat < S1008.size a) ∧
  (∀ a x, ((![v56] : Fin 1 → IVec S16 32) a x).toNat < S1008.size a) ∧
  (∀ a x, ((![v56] : Fin 1 → IVec S16 32) a x).toNat < S1008.size a)
theorem k0_idx22_inb : ∀ (v56 : IVec S16 32) (k0_hw22 : k0_chk22 v56), ∀ a x, ((![v56] : Fin 1 → IVec S16 32) a x).toNat < S1008.size a := fun v56 k0_hw22 => k0_hw22.1
theorem k0_idx69_inb : ∀ (v56 : IVec S16 32) (k0_hw22 : k0_chk22 v56), ∀ a x, ((![v56] : Fin 1 → IVec S16 32) a x).toNat < S1008.size a := fun v56 k0_hw22 => k0_hw22.2.1
theorem k0_idx70_inb : ∀ (v56 : IVec S16 32) (k0_hw22 : k0_chk22 v56), ∀ a x, ((![v56] : Fin 1 → IVec S16 32) a x).toNat < S1008.size a := fun v56 k0_hw22 => k0_hw22.2.2.1
theorem k0_idx100_inb : ∀ (v56 : IVec S16 32) (k0_hw22 : k0_chk22 v56), ∀ a x, ((![v56] : Fin 1 → IVec S16 32) a x).toNat < S1008.size a := fun v56 k0_hw22 => k0_hw22.2.2.2

def k0_chk23 (v32 : IVec S16 32) : Prop :=
  (∀ a x, ((![v32] : Fin 1 → IVec S16 32) a x).toNat < S1008.size a) ∧
  (∀ a x, ((![v32] : Fin 1 → IVec S16 32) a x).toNat < S1008.size a) ∧
  (∀ a x, ((![v32] : Fin 1 → IVec S16 32) a x).toNat < S1008.size a) ∧
  (∀ a x, ((![v32] : Fin 1 → IVec S16 32) a x).toNat < S1008.size a)
theorem k0_idx23_inb : ∀ (v32 : IVec S16 32) (k0_hw23 : k0_chk23 v32), ∀ a x, ((![v32] : Fin 1 → IVec S16 32) a x).toNat < S1008.size a := fun v32 k0_hw23 => k0_hw23.1
theorem k0_idx71_inb : ∀ (v32 : IVec S16 32) (k0_hw23 : k0_chk23 v32), ∀ a x, ((![v32] : Fin 1 → IVec S16 32) a x).toNat < S1008.size a := fun v32 k0_hw23 => k0_hw23.2.1
theorem k0_idx72_inb : ∀ (v32 : IVec S16 32) (k0_hw23 : k0_chk23 v32), ∀ a x, ((![v32] : Fin 1 → IVec S16 32) a x).toNat < S1008.size a := fun v32 k0_hw23 => k0_hw23.2.2.1
theorem k0_idx101_inb : ∀ (v32 : IVec S16 32) (k0_hw23 : k0_chk23 v32), ∀ a x, ((![v32] : Fin 1 → IVec S16 32) a x).toNat < S1008.size a := fun v32 k0_hw23 => k0_hw23.2.2.2

def k0_chk24 (v58 : IVec S16 32) : Prop :=
  (∀ a x, ((![v58] : Fin 1 → IVec S16 32) a x).toNat < S1008.size a) ∧
  (∀ a x, ((![v58] : Fin 1 → IVec S16 32) a x).toNat < S1008.size a) ∧
  (∀ a x, ((![v58] : Fin 1 → IVec S16 32) a x).toNat < S1008.size a) ∧
  (∀ a x, ((![v58] : Fin 1 → IVec S16 32) a x).toNat < S1008.size a)
theorem k0_idx24_inb : ∀ (v58 : IVec S16 32) (k0_hw24 : k0_chk24 v58), ∀ a x, ((![v58] : Fin 1 → IVec S16 32) a x).toNat < S1008.size a := fun v58 k0_hw24 => k0_hw24.1
theorem k0_idx73_inb : ∀ (v58 : IVec S16 32) (k0_hw24 : k0_chk24 v58), ∀ a x, ((![v58] : Fin 1 → IVec S16 32) a x).toNat < S1008.size a := fun v58 k0_hw24 => k0_hw24.2.1
theorem k0_idx74_inb : ∀ (v58 : IVec S16 32) (k0_hw24 : k0_chk24 v58), ∀ a x, ((![v58] : Fin 1 → IVec S16 32) a x).toNat < S1008.size a := fun v58 k0_hw24 => k0_hw24.2.2.1
theorem k0_idx102_inb : ∀ (v58 : IVec S16 32) (k0_hw24 : k0_chk24 v58), ∀ a x, ((![v58] : Fin 1 → IVec S16 32) a x).toNat < S1008.size a := fun v58 k0_hw24 => k0_hw24.2.2.2

def k0_chk25 (v34 : IVec S16 32) : Prop :=
  (∀ a x, ((![v34] : Fin 1 → IVec S16 32) a x).toNat < S1008.size a) ∧
  (∀ a x, ((![v34] : Fin 1 → IVec S16 32) a x).toNat < S1008.size a) ∧
  (∀ a x, ((![v34] : Fin 1 → IVec S16 32) a x).toNat < S1008.size a) ∧
  (∀ a x, ((![v34] : Fin 1 → IVec S16 32) a x).toNat < S1008.size a)
theorem k0_idx25_inb : ∀ (v34 : IVec S16 32) (k0_hw25 : k0_chk25 v34), ∀ a x, ((![v34] : Fin 1 → IVec S16 32) a x).toNat < S1008.size a := fun v34 k0_hw25 => k0_hw25.1
theorem k0_idx75_inb : ∀ (v34 : IVec S16 32) (k0_hw25 : k0_chk25 v34), ∀ a x, ((![v34] : Fin 1 → IVec S16 32) a x).toNat < S1008.size a := fun v34 k0_hw25 => k0_hw25.2.1
theorem k0_idx76_inb : ∀ (v34 : IVec S16 32) (k0_hw25 : k0_chk25 v34), ∀ a x, ((![v34] : Fin 1 → IVec S16 32) a x).toNat < S1008.size a := fun v34 k0_hw25 => k0_hw25.2.2.1
theorem k0_idx103_inb : ∀ (v34 : IVec S16 32) (k0_hw25 : k0_chk25 v34), ∀ a x, ((![v34] : Fin 1 → IVec S16 32) a x).toNat < S1008.size a := fun v34 k0_hw25 => k0_hw25.2.2.2

def k0_chk26 (v60 : IVec S16 32) : Prop :=
  (∀ a x, ((![v60] : Fin 1 → IVec S16 32) a x).toNat < S1008.size a) ∧
  (∀ a x, ((![v60] : Fin 1 → IVec S16 32) a x).toNat < S1008.size a) ∧
  (∀ a x, ((![v60] : Fin 1 → IVec S16 32) a x).toNat < S1008.size a) ∧
  (∀ a x, ((![v60] : Fin 1 → IVec S16 32) a x).toNat < S1008.size a)
theorem k0_idx26_inb : ∀ (v60 : IVec S16 32) (k0_hw26 : k0_chk26 v60), ∀ a x, ((![v60] : Fin 1 → IVec S16 32) a x).toNat < S1008.size a := fun v60 k0_hw26 => k0_hw26.1
theorem k0_idx77_inb : ∀ (v60 : IVec S16 32) (k0_hw26 : k0_chk26 v60), ∀ a x, ((![v60] : Fin 1 → IVec S16 32) a x).toNat < S1008.size a := fun v60 k0_hw26 => k0_hw26.2.1
theorem k0_idx78_inb : ∀ (v60 : IVec S16 32) (k0_hw26 : k0_chk26 v60), ∀ a x, ((![v60] : Fin 1 → IVec S16 32) a x).toNat < S1008.size a := fun v60 k0_hw26 => k0_hw26.2.2.1
theorem k0_idx104_inb : ∀ (v60 : IVec S16 32) (k0_hw26 : k0_chk26 v60), ∀ a x, ((![v60] : Fin 1 → IVec S16 32) a x).toNat < S1008.size a := fun v60 k0_hw26 => k0_hw26.2.2.2
def k0_off29 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v300 : Index := Scalar.indexCast v244
  let c0_102 : Index := 0#32
  ![v300.toNat, 0]
def k0_off30 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v310 : Index := Scalar.indexCast v244
  let c16_104 : Index := 16#32
  ![v310.toNat, 16]
def k0_off31 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v320 : Index := Scalar.indexCast v244
  let c32_106 : Index := 32#32
  ![v320.toNat, 32]
def k0_off32 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v330 : Index := Scalar.indexCast v244
  let c48_108 : Index := 48#32
  ![v330.toNat, 48]
def k0_off33 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v340 : Index := Scalar.indexCast v244
  let c64_110 : Index := 64#32
  ![v340.toNat, 64]
def k0_off34 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v350 : Index := Scalar.indexCast v244
  let c80_112 : Index := 80#32
  ![v350.toNat, 80]
def k0_off35 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v360 : Index := Scalar.indexCast v244
  let c96_114 : Index := 96#32
  ![v360.toNat, 96]
def k0_off36 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v370 : Index := Scalar.indexCast v244
  let c112_116 : Index := 112#32
  ![v370.toNat, 112]
def k0_off37 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v380 : Index := Scalar.indexCast v244
  let c128_118 : Index := 128#32
  ![v380.toNat, 128]
def k0_off38 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v390 : Index := Scalar.indexCast v244
  let c144_120 : Index := 144#32
  ![v390.toNat, 144]
def k0_off39 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v400 : Index := Scalar.indexCast v244
  let c160_122 : Index := 160#32
  ![v400.toNat, 160]
def k0_off40 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v410 : Index := Scalar.indexCast v244
  let c176_124 : Index := 176#32
  ![v410.toNat, 176]
def k0_off41 (k0_t2 : Fin k0_t2_loop.trips) : Fin 2 → Nat :=
  let c2_i32_74 : BitVec 32 := 2#32
  let c0_i32_4 : BitVec 32 := 0#32
  let c1_i32_5 : BitVec 32 := 1#32
  let arg14 : BitVec 32 := Scf.iv c0_i32_4 c1_i32_5 k0_t2
  let v243 : BitVec 32 := Scalar.muli c2_i32_74 arg14
  let c1_i32_75 : BitVec 32 := 1#32
  let v244 : BitVec 32 := Scalar.addi v243 c1_i32_75
  let v420 : Index := Scalar.indexCast v244
  let c192_126 : Index := 192#32
  ![v420.toNat, 192]

def k0_chk27 (v246 : IVec S16 32) : Prop :=
  (∀ a x, ((![v246] : Fin 1 → IVec S16 32) a x).toNat < S1008.size a) ∧
  (∀ a x, ((![v246] : Fin 1 → IVec S16 32) a x).toNat < S1008.size a) ∧
  (∀ a x, ((![v246] : Fin 1 → IVec S16 32) a x).toNat < S1008.size a) ∧
  (∀ a x, ((![v246] : Fin 1 → IVec S16 32) a x).toNat < S1008.size a)
theorem k0_idx105_inb : ∀ (v246 : IVec S16 32) (k0_hw27 : k0_chk27 v246), ∀ a x, ((![v246] : Fin 1 → IVec S16 32) a x).toNat < S1008.size a := fun v246 k0_hw27 => k0_hw27.1
theorem k0_idx131_inb : ∀ (v246 : IVec S16 32) (k0_hw27 : k0_chk27 v246), ∀ a x, ((![v246] : Fin 1 → IVec S16 32) a x).toNat < S1008.size a := fun v246 k0_hw27 => k0_hw27.2.1
theorem k0_idx132_inb : ∀ (v246 : IVec S16 32) (k0_hw27 : k0_chk27 v246), ∀ a x, ((![v246] : Fin 1 → IVec S16 32) a x).toNat < S1008.size a := fun v246 k0_hw27 => k0_hw27.2.2.1
theorem k0_idx183_inb : ∀ (v246 : IVec S16 32) (k0_hw27 : k0_chk27 v246), ∀ a x, ((![v246] : Fin 1 → IVec S16 32) a x).toNat < S1008.size a := fun v246 k0_hw27 => k0_hw27.2.2.2

def k0_chk28 (v272 : IVec S16 32) : Prop :=
  (∀ a x, ((![v272] : Fin 1 → IVec S16 32) a x).toNat < S1008.size a) ∧
  (∀ a x, ((![v272] : Fin 1 → IVec S16 32) a x).toNat < S1008.size a) ∧
  (∀ a x, ((![v272] : Fin 1 → IVec S16 32) a x).toNat < S1008.size a) ∧
  (∀ a x, ((![v272] : Fin 1 → IVec S16 32) a x).toNat < S1008.size a)
theorem k0_idx106_inb : ∀ (v272 : IVec S16 32) (k0_hw28 : k0_chk28 v272), ∀ a x, ((![v272] : Fin 1 → IVec S16 32) a x).toNat < S1008.size a := fun v272 k0_hw28 => k0_hw28.1
theorem k0_idx133_inb : ∀ (v272 : IVec S16 32) (k0_hw28 : k0_chk28 v272), ∀ a x, ((![v272] : Fin 1 → IVec S16 32) a x).toNat < S1008.size a := fun v272 k0_hw28 => k0_hw28.2.1
theorem k0_idx134_inb : ∀ (v272 : IVec S16 32) (k0_hw28 : k0_chk28 v272), ∀ a x, ((![v272] : Fin 1 → IVec S16 32) a x).toNat < S1008.size a := fun v272 k0_hw28 => k0_hw28.2.2.1
theorem k0_idx184_inb : ∀ (v272 : IVec S16 32) (k0_hw28 : k0_chk28 v272), ∀ a x, ((![v272] : Fin 1 → IVec S16 32) a x).toNat < S1008.size a := fun v272 k0_hw28 => k0_hw28.2.2.2

def k0_chk29 (v248 : IVec S16 32) : Prop :=
  (∀ a x, ((![v248] : Fin 1 → IVec S16 32) a x).toNat < S1008.size a) ∧
  (∀ a x, ((![v248] : Fin 1 → IVec S16 32) a x).toNat < S1008.size a) ∧
  (∀ a x, ((![v248] : Fin 1 → IVec S16 32) a x).toNat < S1008.size a) ∧
  (∀ a x, ((![v248] : Fin 1 → IVec S16 32) a x).toNat < S1008.size a)
theorem k0_idx107_inb : ∀ (v248 : IVec S16 32) (k0_hw29 : k0_chk29 v248), ∀ a x, ((![v248] : Fin 1 → IVec S16 32) a x).toNat < S1008.size a := fun v248 k0_hw29 => k0_hw29.1
theorem k0_idx135_inb : ∀ (v248 : IVec S16 32) (k0_hw29 : k0_chk29 v248), ∀ a x, ((![v248] : Fin 1 → IVec S16 32) a x).toNat < S1008.size a := fun v248 k0_hw29 => k0_hw29.2.1
theorem k0_idx136_inb : ∀ (v248 : IVec S16 32) (k0_hw29 : k0_chk29 v248), ∀ a x, ((![v248] : Fin 1 → IVec S16 32) a x).toNat < S1008.size a := fun v248 k0_hw29 => k0_hw29.2.2.1
theorem k0_idx185_inb : ∀ (v248 : IVec S16 32) (k0_hw29 : k0_chk29 v248), ∀ a x, ((![v248] : Fin 1 → IVec S16 32) a x).toNat < S1008.size a := fun v248 k0_hw29 => k0_hw29.2.2.2

def k0_chk30 (v274 : IVec S16 32) : Prop :=
  (∀ a x, ((![v274] : Fin 1 → IVec S16 32) a x).toNat < S1008.size a) ∧
  (∀ a x, ((![v274] : Fin 1 → IVec S16 32) a x).toNat < S1008.size a) ∧
  (∀ a x, ((![v274] : Fin 1 → IVec S16 32) a x).toNat < S1008.size a) ∧
  (∀ a x, ((![v274] : Fin 1 → IVec S16 32) a x).toNat < S1008.size a)
theorem k0_idx108_inb : ∀ (v274 : IVec S16 32) (k0_hw30 : k0_chk30 v274), ∀ a x, ((![v274] : Fin 1 → IVec S16 32) a x).toNat < S1008.size a := fun v274 k0_hw30 => k0_hw30.1
theorem k0_idx137_inb : ∀ (v274 : IVec S16 32) (k0_hw30 : k0_chk30 v274), ∀ a x, ((![v274] : Fin 1 → IVec S16 32) a x).toNat < S1008.size a := fun v274 k0_hw30 => k0_hw30.2.1
theorem k0_idx138_inb : ∀ (v274 : IVec S16 32) (k0_hw30 : k0_chk30 v274), ∀ a x, ((![v274] : Fin 1 → IVec S16 32) a x).toNat < S1008.size a := fun v274 k0_hw30 => k0_hw30.2.2.1
theorem k0_idx186_inb : ∀ (v274 : IVec S16 32) (k0_hw30 : k0_chk30 v274), ∀ a x, ((![v274] : Fin 1 → IVec S16 32) a x).toNat < S1008.size a := fun v274 k0_hw30 => k0_hw30.2.2.2

def k0_chk31 (v250 : IVec S16 32) : Prop :=
  (∀ a x, ((![v250] : Fin 1 → IVec S16 32) a x).toNat < S1008.size a) ∧
  (∀ a x, ((![v250] : Fin 1 → IVec S16 32) a x).toNat < S1008.size a) ∧
  (∀ a x, ((![v250] : Fin 1 → IVec S16 32) a x).toNat < S1008.size a) ∧
  (∀ a x, ((![v250] : Fin 1 → IVec S16 32) a x).toNat < S1008.size a)
theorem k0_idx109_inb : ∀ (v250 : IVec S16 32) (k0_hw31 : k0_chk31 v250), ∀ a x, ((![v250] : Fin 1 → IVec S16 32) a x).toNat < S1008.size a := fun v250 k0_hw31 => k0_hw31.1
theorem k0_idx139_inb : ∀ (v250 : IVec S16 32) (k0_hw31 : k0_chk31 v250), ∀ a x, ((![v250] : Fin 1 → IVec S16 32) a x).toNat < S1008.size a := fun v250 k0_hw31 => k0_hw31.2.1
theorem k0_idx140_inb : ∀ (v250 : IVec S16 32) (k0_hw31 : k0_chk31 v250), ∀ a x, ((![v250] : Fin 1 → IVec S16 32) a x).toNat < S1008.size a := fun v250 k0_hw31 => k0_hw31.2.2.1
theorem k0_idx187_inb : ∀ (v250 : IVec S16 32) (k0_hw31 : k0_chk31 v250), ∀ a x, ((![v250] : Fin 1 → IVec S16 32) a x).toNat < S1008.size a := fun v250 k0_hw31 => k0_hw31.2.2.2

def k0_chk32 (v276 : IVec S16 32) : Prop :=
  (∀ a x, ((![v276] : Fin 1 → IVec S16 32) a x).toNat < S1008.size a) ∧
  (∀ a x, ((![v276] : Fin 1 → IVec S16 32) a x).toNat < S1008.size a) ∧
  (∀ a x, ((![v276] : Fin 1 → IVec S16 32) a x).toNat < S1008.size a) ∧
  (∀ a x, ((![v276] : Fin 1 → IVec S16 32) a x).toNat < S1008.size a)
theorem k0_idx110_inb : ∀ (v276 : IVec S16 32) (k0_hw32 : k0_chk32 v276), ∀ a x, ((![v276] : Fin 1 → IVec S16 32) a x).toNat < S1008.size a := fun v276 k0_hw32 => k0_hw32.1
theorem k0_idx141_inb : ∀ (v276 : IVec S16 32) (k0_hw32 : k0_chk32 v276), ∀ a x, ((![v276] : Fin 1 → IVec S16 32) a x).toNat < S1008.size a := fun v276 k0_hw32 => k0_hw32.2.1
theorem k0_idx142_inb : ∀ (v276 : IVec S16 32) (k0_hw32 : k0_chk32 v276), ∀ a x, ((![v276] : Fin 1 → IVec S16 32) a x).toNat < S1008.size a := fun v276 k0_hw32 => k0_hw32.2.2.1
theorem k0_idx188_inb : ∀ (v276 : IVec S16 32) (k0_hw32 : k0_chk32 v276), ∀ a x, ((![v276] : Fin 1 → IVec S16 32) a x).toNat < S1008.size a := fun v276 k0_hw32 => k0_hw32.2.2.2

def k0_chk33 (v252 : IVec S16 32) : Prop :=
  (∀ a x, ((![v252] : Fin 1 → IVec S16 32) a x).toNat < S1008.size a) ∧
  (∀ a x, ((![v252] : Fin 1 → IVec S16 32) a x).toNat < S1008.size a) ∧
  (∀ a x, ((![v252] : Fin 1 → IVec S16 32) a x).toNat < S1008.size a) ∧
  (∀ a x, ((![v252] : Fin 1 → IVec S16 32) a x).toNat < S1008.size a)
theorem k0_idx111_inb : ∀ (v252 : IVec S16 32) (k0_hw33 : k0_chk33 v252), ∀ a x, ((![v252] : Fin 1 → IVec S16 32) a x).toNat < S1008.size a := fun v252 k0_hw33 => k0_hw33.1
theorem k0_idx143_inb : ∀ (v252 : IVec S16 32) (k0_hw33 : k0_chk33 v252), ∀ a x, ((![v252] : Fin 1 → IVec S16 32) a x).toNat < S1008.size a := fun v252 k0_hw33 => k0_hw33.2.1
theorem k0_idx144_inb : ∀ (v252 : IVec S16 32) (k0_hw33 : k0_chk33 v252), ∀ a x, ((![v252] : Fin 1 → IVec S16 32) a x).toNat < S1008.size a := fun v252 k0_hw33 => k0_hw33.2.2.1
theorem k0_idx189_inb : ∀ (v252 : IVec S16 32) (k0_hw33 : k0_chk33 v252), ∀ a x, ((![v252] : Fin 1 → IVec S16 32) a x).toNat < S1008.size a := fun v252 k0_hw33 => k0_hw33.2.2.2

def k0_chk34 (v278 : IVec S16 32) : Prop :=
  (∀ a x, ((![v278] : Fin 1 → IVec S16 32) a x).toNat < S1008.size a) ∧
  (∀ a x, ((![v278] : Fin 1 → IVec S16 32) a x).toNat < S1008.size a) ∧
  (∀ a x, ((![v278] : Fin 1 → IVec S16 32) a x).toNat < S1008.size a) ∧
  (∀ a x, ((![v278] : Fin 1 → IVec S16 32) a x).toNat < S1008.size a)
theorem k0_idx112_inb : ∀ (v278 : IVec S16 32) (k0_hw34 : k0_chk34 v278), ∀ a x, ((![v278] : Fin 1 → IVec S16 32) a x).toNat < S1008.size a := fun v278 k0_hw34 => k0_hw34.1
theorem k0_idx145_inb : ∀ (v278 : IVec S16 32) (k0_hw34 : k0_chk34 v278), ∀ a x, ((![v278] : Fin 1 → IVec S16 32) a x).toNat < S1008.size a := fun v278 k0_hw34 => k0_hw34.2.1
theorem k0_idx146_inb : ∀ (v278 : IVec S16 32) (k0_hw34 : k0_chk34 v278), ∀ a x, ((![v278] : Fin 1 → IVec S16 32) a x).toNat < S1008.size a := fun v278 k0_hw34 => k0_hw34.2.2.1
theorem k0_idx190_inb : ∀ (v278 : IVec S16 32) (k0_hw34 : k0_chk34 v278), ∀ a x, ((![v278] : Fin 1 → IVec S16 32) a x).toNat < S1008.size a := fun v278 k0_hw34 => k0_hw34.2.2.2

def k0_chk35 (v254 : IVec S16 32) : Prop :=
  (∀ a x, ((![v254] : Fin 1 → IVec S16 32) a x).toNat < S1008.size a) ∧
  (∀ a x, ((![v254] : Fin 1 → IVec S16 32) a x).toNat < S1008.size a) ∧
  (∀ a x, ((![v254] : Fin 1 → IVec S16 32) a x).toNat < S1008.size a) ∧
  (∀ a x, ((![v254] : Fin 1 → IVec S16 32) a x).toNat < S1008.size a)
theorem k0_idx113_inb : ∀ (v254 : IVec S16 32) (k0_hw35 : k0_chk35 v254), ∀ a x, ((![v254] : Fin 1 → IVec S16 32) a x).toNat < S1008.size a := fun v254 k0_hw35 => k0_hw35.1
theorem k0_idx147_inb : ∀ (v254 : IVec S16 32) (k0_hw35 : k0_chk35 v254), ∀ a x, ((![v254] : Fin 1 → IVec S16 32) a x).toNat < S1008.size a := fun v254 k0_hw35 => k0_hw35.2.1
theorem k0_idx148_inb : ∀ (v254 : IVec S16 32) (k0_hw35 : k0_chk35 v254), ∀ a x, ((![v254] : Fin 1 → IVec S16 32) a x).toNat < S1008.size a := fun v254 k0_hw35 => k0_hw35.2.2.1
theorem k0_idx191_inb : ∀ (v254 : IVec S16 32) (k0_hw35 : k0_chk35 v254), ∀ a x, ((![v254] : Fin 1 → IVec S16 32) a x).toNat < S1008.size a := fun v254 k0_hw35 => k0_hw35.2.2.2

def k0_chk36 (v280 : IVec S16 32) : Prop :=
  (∀ a x, ((![v280] : Fin 1 → IVec S16 32) a x).toNat < S1008.size a) ∧
  (∀ a x, ((![v280] : Fin 1 → IVec S16 32) a x).toNat < S1008.size a) ∧
  (∀ a x, ((![v280] : Fin 1 → IVec S16 32) a x).toNat < S1008.size a) ∧
  (∀ a x, ((![v280] : Fin 1 → IVec S16 32) a x).toNat < S1008.size a)
theorem k0_idx114_inb : ∀ (v280 : IVec S16 32) (k0_hw36 : k0_chk36 v280), ∀ a x, ((![v280] : Fin 1 → IVec S16 32) a x).toNat < S1008.size a := fun v280 k0_hw36 => k0_hw36.1
theorem k0_idx149_inb : ∀ (v280 : IVec S16 32) (k0_hw36 : k0_chk36 v280), ∀ a x, ((![v280] : Fin 1 → IVec S16 32) a x).toNat < S1008.size a := fun v280 k0_hw36 => k0_hw36.2.1
theorem k0_idx150_inb : ∀ (v280 : IVec S16 32) (k0_hw36 : k0_chk36 v280), ∀ a x, ((![v280] : Fin 1 → IVec S16 32) a x).toNat < S1008.size a := fun v280 k0_hw36 => k0_hw36.2.2.1
theorem k0_idx192_inb : ∀ (v280 : IVec S16 32) (k0_hw36 : k0_chk36 v280), ∀ a x, ((![v280] : Fin 1 → IVec S16 32) a x).toNat < S1008.size a := fun v280 k0_hw36 => k0_hw36.2.2.2

def k0_chk37 (v256 : IVec S16 32) : Prop :=
  (∀ a x, ((![v256] : Fin 1 → IVec S16 32) a x).toNat < S1008.size a) ∧
  (∀ a x, ((![v256] : Fin 1 → IVec S16 32) a x).toNat < S1008.size a) ∧
  (∀ a x, ((![v256] : Fin 1 → IVec S16 32) a x).toNat < S1008.size a) ∧
  (∀ a x, ((![v256] : Fin 1 → IVec S16 32) a x).toNat < S1008.size a)
theorem k0_idx115_inb : ∀ (v256 : IVec S16 32) (k0_hw37 : k0_chk37 v256), ∀ a x, ((![v256] : Fin 1 → IVec S16 32) a x).toNat < S1008.size a := fun v256 k0_hw37 => k0_hw37.1
theorem k0_idx151_inb : ∀ (v256 : IVec S16 32) (k0_hw37 : k0_chk37 v256), ∀ a x, ((![v256] : Fin 1 → IVec S16 32) a x).toNat < S1008.size a := fun v256 k0_hw37 => k0_hw37.2.1
theorem k0_idx152_inb : ∀ (v256 : IVec S16 32) (k0_hw37 : k0_chk37 v256), ∀ a x, ((![v256] : Fin 1 → IVec S16 32) a x).toNat < S1008.size a := fun v256 k0_hw37 => k0_hw37.2.2.1
theorem k0_idx193_inb : ∀ (v256 : IVec S16 32) (k0_hw37 : k0_chk37 v256), ∀ a x, ((![v256] : Fin 1 → IVec S16 32) a x).toNat < S1008.size a := fun v256 k0_hw37 => k0_hw37.2.2.2

def k0_chk38 (v282 : IVec S16 32) : Prop :=
  (∀ a x, ((![v282] : Fin 1 → IVec S16 32) a x).toNat < S1008.size a) ∧
  (∀ a x, ((![v282] : Fin 1 → IVec S16 32) a x).toNat < S1008.size a) ∧
  (∀ a x, ((![v282] : Fin 1 → IVec S16 32) a x).toNat < S1008.size a) ∧
  (∀ a x, ((![v282] : Fin 1 → IVec S16 32) a x).toNat < S1008.size a)
theorem k0_idx116_inb : ∀ (v282 : IVec S16 32) (k0_hw38 : k0_chk38 v282), ∀ a x, ((![v282] : Fin 1 → IVec S16 32) a x).toNat < S1008.size a := fun v282 k0_hw38 => k0_hw38.1
theorem k0_idx153_inb : ∀ (v282 : IVec S16 32) (k0_hw38 : k0_chk38 v282), ∀ a x, ((![v282] : Fin 1 → IVec S16 32) a x).toNat < S1008.size a := fun v282 k0_hw38 => k0_hw38.2.1
theorem k0_idx154_inb : ∀ (v282 : IVec S16 32) (k0_hw38 : k0_chk38 v282), ∀ a x, ((![v282] : Fin 1 → IVec S16 32) a x).toNat < S1008.size a := fun v282 k0_hw38 => k0_hw38.2.2.1
theorem k0_idx194_inb : ∀ (v282 : IVec S16 32) (k0_hw38 : k0_chk38 v282), ∀ a x, ((![v282] : Fin 1 → IVec S16 32) a x).toNat < S1008.size a := fun v282 k0_hw38 => k0_hw38.2.2.2

def k0_chk39 (v258 : IVec S16 32) : Prop :=
  (∀ a x, ((![v258] : Fin 1 → IVec S16 32) a x).toNat < S1008.size a) ∧
  (∀ a x, ((![v258] : Fin 1 → IVec S16 32) a x).toNat < S1008.size a) ∧
  (∀ a x, ((![v258] : Fin 1 → IVec S16 32) a x).toNat < S1008.size a) ∧
  (∀ a x, ((![v258] : Fin 1 → IVec S16 32) a x).toNat < S1008.size a)
theorem k0_idx117_inb : ∀ (v258 : IVec S16 32) (k0_hw39 : k0_chk39 v258), ∀ a x, ((![v258] : Fin 1 → IVec S16 32) a x).toNat < S1008.size a := fun v258 k0_hw39 => k0_hw39.1
theorem k0_idx155_inb : ∀ (v258 : IVec S16 32) (k0_hw39 : k0_chk39 v258), ∀ a x, ((![v258] : Fin 1 → IVec S16 32) a x).toNat < S1008.size a := fun v258 k0_hw39 => k0_hw39.2.1
theorem k0_idx156_inb : ∀ (v258 : IVec S16 32) (k0_hw39 : k0_chk39 v258), ∀ a x, ((![v258] : Fin 1 → IVec S16 32) a x).toNat < S1008.size a := fun v258 k0_hw39 => k0_hw39.2.2.1
theorem k0_idx195_inb : ∀ (v258 : IVec S16 32) (k0_hw39 : k0_chk39 v258), ∀ a x, ((![v258] : Fin 1 → IVec S16 32) a x).toNat < S1008.size a := fun v258 k0_hw39 => k0_hw39.2.2.2

def k0_chk40 (v284 : IVec S16 32) : Prop :=
  (∀ a x, ((![v284] : Fin 1 → IVec S16 32) a x).toNat < S1008.size a) ∧
  (∀ a x, ((![v284] : Fin 1 → IVec S16 32) a x).toNat < S1008.size a) ∧
  (∀ a x, ((![v284] : Fin 1 → IVec S16 32) a x).toNat < S1008.size a) ∧
  (∀ a x, ((![v284] : Fin 1 → IVec S16 32) a x).toNat < S1008.size a)
theorem k0_idx118_inb : ∀ (v284 : IVec S16 32) (k0_hw40 : k0_chk40 v284), ∀ a x, ((![v284] : Fin 1 → IVec S16 32) a x).toNat < S1008.size a := fun v284 k0_hw40 => k0_hw40.1
theorem k0_idx157_inb : ∀ (v284 : IVec S16 32) (k0_hw40 : k0_chk40 v284), ∀ a x, ((![v284] : Fin 1 → IVec S16 32) a x).toNat < S1008.size a := fun v284 k0_hw40 => k0_hw40.2.1
theorem k0_idx158_inb : ∀ (v284 : IVec S16 32) (k0_hw40 : k0_chk40 v284), ∀ a x, ((![v284] : Fin 1 → IVec S16 32) a x).toNat < S1008.size a := fun v284 k0_hw40 => k0_hw40.2.2.1
theorem k0_idx196_inb : ∀ (v284 : IVec S16 32) (k0_hw40 : k0_chk40 v284), ∀ a x, ((![v284] : Fin 1 → IVec S16 32) a x).toNat < S1008.size a := fun v284 k0_hw40 => k0_hw40.2.2.2

def k0_chk41 (v260 : IVec S16 32) : Prop :=
  (∀ a x, ((![v260] : Fin 1 → IVec S16 32) a x).toNat < S1008.size a) ∧
  (∀ a x, ((![v260] : Fin 1 → IVec S16 32) a x).toNat < S1008.size a) ∧
  (∀ a x, ((![v260] : Fin 1 → IVec S16 32) a x).toNat < S1008.size a) ∧
  (∀ a x, ((![v260] : Fin 1 → IVec S16 32) a x).toNat < S1008.size a)
theorem k0_idx119_inb : ∀ (v260 : IVec S16 32) (k0_hw41 : k0_chk41 v260), ∀ a x, ((![v260] : Fin 1 → IVec S16 32) a x).toNat < S1008.size a := fun v260 k0_hw41 => k0_hw41.1
theorem k0_idx159_inb : ∀ (v260 : IVec S16 32) (k0_hw41 : k0_chk41 v260), ∀ a x, ((![v260] : Fin 1 → IVec S16 32) a x).toNat < S1008.size a := fun v260 k0_hw41 => k0_hw41.2.1
theorem k0_idx160_inb : ∀ (v260 : IVec S16 32) (k0_hw41 : k0_chk41 v260), ∀ a x, ((![v260] : Fin 1 → IVec S16 32) a x).toNat < S1008.size a := fun v260 k0_hw41 => k0_hw41.2.2.1
theorem k0_idx197_inb : ∀ (v260 : IVec S16 32) (k0_hw41 : k0_chk41 v260), ∀ a x, ((![v260] : Fin 1 → IVec S16 32) a x).toNat < S1008.size a := fun v260 k0_hw41 => k0_hw41.2.2.2

def k0_chk42 (v286 : IVec S16 32) : Prop :=
  (∀ a x, ((![v286] : Fin 1 → IVec S16 32) a x).toNat < S1008.size a) ∧
  (∀ a x, ((![v286] : Fin 1 → IVec S16 32) a x).toNat < S1008.size a) ∧
  (∀ a x, ((![v286] : Fin 1 → IVec S16 32) a x).toNat < S1008.size a) ∧
  (∀ a x, ((![v286] : Fin 1 → IVec S16 32) a x).toNat < S1008.size a)
theorem k0_idx120_inb : ∀ (v286 : IVec S16 32) (k0_hw42 : k0_chk42 v286), ∀ a x, ((![v286] : Fin 1 → IVec S16 32) a x).toNat < S1008.size a := fun v286 k0_hw42 => k0_hw42.1
theorem k0_idx161_inb : ∀ (v286 : IVec S16 32) (k0_hw42 : k0_chk42 v286), ∀ a x, ((![v286] : Fin 1 → IVec S16 32) a x).toNat < S1008.size a := fun v286 k0_hw42 => k0_hw42.2.1
theorem k0_idx162_inb : ∀ (v286 : IVec S16 32) (k0_hw42 : k0_chk42 v286), ∀ a x, ((![v286] : Fin 1 → IVec S16 32) a x).toNat < S1008.size a := fun v286 k0_hw42 => k0_hw42.2.2.1
theorem k0_idx198_inb : ∀ (v286 : IVec S16 32) (k0_hw42 : k0_chk42 v286), ∀ a x, ((![v286] : Fin 1 → IVec S16 32) a x).toNat < S1008.size a := fun v286 k0_hw42 => k0_hw42.2.2.2

def k0_chk43 (v262 : IVec S16 32) : Prop :=
  (∀ a x, ((![v262] : Fin 1 → IVec S16 32) a x).toNat < S1008.size a) ∧
  (∀ a x, ((![v262] : Fin 1 → IVec S16 32) a x).toNat < S1008.size a) ∧
  (∀ a x, ((![v262] : Fin 1 → IVec S16 32) a x).toNat < S1008.size a) ∧
  (∀ a x, ((![v262] : Fin 1 → IVec S16 32) a x).toNat < S1008.size a)
theorem k0_idx121_inb : ∀ (v262 : IVec S16 32) (k0_hw43 : k0_chk43 v262), ∀ a x, ((![v262] : Fin 1 → IVec S16 32) a x).toNat < S1008.size a := fun v262 k0_hw43 => k0_hw43.1
theorem k0_idx163_inb : ∀ (v262 : IVec S16 32) (k0_hw43 : k0_chk43 v262), ∀ a x, ((![v262] : Fin 1 → IVec S16 32) a x).toNat < S1008.size a := fun v262 k0_hw43 => k0_hw43.2.1
theorem k0_idx164_inb : ∀ (v262 : IVec S16 32) (k0_hw43 : k0_chk43 v262), ∀ a x, ((![v262] : Fin 1 → IVec S16 32) a x).toNat < S1008.size a := fun v262 k0_hw43 => k0_hw43.2.2.1
theorem k0_idx199_inb : ∀ (v262 : IVec S16 32) (k0_hw43 : k0_chk43 v262), ∀ a x, ((![v262] : Fin 1 → IVec S16 32) a x).toNat < S1008.size a := fun v262 k0_hw43 => k0_hw43.2.2.2

def k0_chk44 (v288 : IVec S16 32) : Prop :=
  (∀ a x, ((![v288] : Fin 1 → IVec S16 32) a x).toNat < S1008.size a) ∧
  (∀ a x, ((![v288] : Fin 1 → IVec S16 32) a x).toNat < S1008.size a) ∧
  (∀ a x, ((![v288] : Fin 1 → IVec S16 32) a x).toNat < S1008.size a) ∧
  (∀ a x, ((![v288] : Fin 1 → IVec S16 32) a x).toNat < S1008.size a)
theorem k0_idx122_inb : ∀ (v288 : IVec S16 32) (k0_hw44 : k0_chk44 v288), ∀ a x, ((![v288] : Fin 1 → IVec S16 32) a x).toNat < S1008.size a := fun v288 k0_hw44 => k0_hw44.1
theorem k0_idx165_inb : ∀ (v288 : IVec S16 32) (k0_hw44 : k0_chk44 v288), ∀ a x, ((![v288] : Fin 1 → IVec S16 32) a x).toNat < S1008.size a := fun v288 k0_hw44 => k0_hw44.2.1
theorem k0_idx166_inb : ∀ (v288 : IVec S16 32) (k0_hw44 : k0_chk44 v288), ∀ a x, ((![v288] : Fin 1 → IVec S16 32) a x).toNat < S1008.size a := fun v288 k0_hw44 => k0_hw44.2.2.1
theorem k0_idx200_inb : ∀ (v288 : IVec S16 32) (k0_hw44 : k0_chk44 v288), ∀ a x, ((![v288] : Fin 1 → IVec S16 32) a x).toNat < S1008.size a := fun v288 k0_hw44 => k0_hw44.2.2.2

def k0_chk45 (v264 : IVec S16 32) : Prop :=
  (∀ a x, ((![v264] : Fin 1 → IVec S16 32) a x).toNat < S1008.size a) ∧
  (∀ a x, ((![v264] : Fin 1 → IVec S16 32) a x).toNat < S1008.size a) ∧
  (∀ a x, ((![v264] : Fin 1 → IVec S16 32) a x).toNat < S1008.size a) ∧
  (∀ a x, ((![v264] : Fin 1 → IVec S16 32) a x).toNat < S1008.size a)
theorem k0_idx123_inb : ∀ (v264 : IVec S16 32) (k0_hw45 : k0_chk45 v264), ∀ a x, ((![v264] : Fin 1 → IVec S16 32) a x).toNat < S1008.size a := fun v264 k0_hw45 => k0_hw45.1
theorem k0_idx167_inb : ∀ (v264 : IVec S16 32) (k0_hw45 : k0_chk45 v264), ∀ a x, ((![v264] : Fin 1 → IVec S16 32) a x).toNat < S1008.size a := fun v264 k0_hw45 => k0_hw45.2.1
theorem k0_idx168_inb : ∀ (v264 : IVec S16 32) (k0_hw45 : k0_chk45 v264), ∀ a x, ((![v264] : Fin 1 → IVec S16 32) a x).toNat < S1008.size a := fun v264 k0_hw45 => k0_hw45.2.2.1
theorem k0_idx201_inb : ∀ (v264 : IVec S16 32) (k0_hw45 : k0_chk45 v264), ∀ a x, ((![v264] : Fin 1 → IVec S16 32) a x).toNat < S1008.size a := fun v264 k0_hw45 => k0_hw45.2.2.2

def k0_chk46 (v290 : IVec S16 32) : Prop :=
  (∀ a x, ((![v290] : Fin 1 → IVec S16 32) a x).toNat < S1008.size a) ∧
  (∀ a x, ((![v290] : Fin 1 → IVec S16 32) a x).toNat < S1008.size a) ∧
  (∀ a x, ((![v290] : Fin 1 → IVec S16 32) a x).toNat < S1008.size a) ∧
  (∀ a x, ((![v290] : Fin 1 → IVec S16 32) a x).toNat < S1008.size a)
theorem k0_idx124_inb : ∀ (v290 : IVec S16 32) (k0_hw46 : k0_chk46 v290), ∀ a x, ((![v290] : Fin 1 → IVec S16 32) a x).toNat < S1008.size a := fun v290 k0_hw46 => k0_hw46.1
theorem k0_idx169_inb : ∀ (v290 : IVec S16 32) (k0_hw46 : k0_chk46 v290), ∀ a x, ((![v290] : Fin 1 → IVec S16 32) a x).toNat < S1008.size a := fun v290 k0_hw46 => k0_hw46.2.1
theorem k0_idx170_inb : ∀ (v290 : IVec S16 32) (k0_hw46 : k0_chk46 v290), ∀ a x, ((![v290] : Fin 1 → IVec S16 32) a x).toNat < S1008.size a := fun v290 k0_hw46 => k0_hw46.2.2.1
theorem k0_idx202_inb : ∀ (v290 : IVec S16 32) (k0_hw46 : k0_chk46 v290), ∀ a x, ((![v290] : Fin 1 → IVec S16 32) a x).toNat < S1008.size a := fun v290 k0_hw46 => k0_hw46.2.2.2

def k0_chk47 (v266 : IVec S16 32) : Prop :=
  (∀ a x, ((![v266] : Fin 1 → IVec S16 32) a x).toNat < S1008.size a) ∧
  (∀ a x, ((![v266] : Fin 1 → IVec S16 32) a x).toNat < S1008.size a) ∧
  (∀ a x, ((![v266] : Fin 1 → IVec S16 32) a x).toNat < S1008.size a) ∧
  (∀ a x, ((![v266] : Fin 1 → IVec S16 32) a x).toNat < S1008.size a)
theorem k0_idx125_inb : ∀ (v266 : IVec S16 32) (k0_hw47 : k0_chk47 v266), ∀ a x, ((![v266] : Fin 1 → IVec S16 32) a x).toNat < S1008.size a := fun v266 k0_hw47 => k0_hw47.1
theorem k0_idx171_inb : ∀ (v266 : IVec S16 32) (k0_hw47 : k0_chk47 v266), ∀ a x, ((![v266] : Fin 1 → IVec S16 32) a x).toNat < S1008.size a := fun v266 k0_hw47 => k0_hw47.2.1
theorem k0_idx172_inb : ∀ (v266 : IVec S16 32) (k0_hw47 : k0_chk47 v266), ∀ a x, ((![v266] : Fin 1 → IVec S16 32) a x).toNat < S1008.size a := fun v266 k0_hw47 => k0_hw47.2.2.1
theorem k0_idx203_inb : ∀ (v266 : IVec S16 32) (k0_hw47 : k0_chk47 v266), ∀ a x, ((![v266] : Fin 1 → IVec S16 32) a x).toNat < S1008.size a := fun v266 k0_hw47 => k0_hw47.2.2.2

def k0_chk48 (v292 : IVec S16 32) : Prop :=
  (∀ a x, ((![v292] : Fin 1 → IVec S16 32) a x).toNat < S1008.size a) ∧
  (∀ a x, ((![v292] : Fin 1 → IVec S16 32) a x).toNat < S1008.size a) ∧
  (∀ a x, ((![v292] : Fin 1 → IVec S16 32) a x).toNat < S1008.size a) ∧
  (∀ a x, ((![v292] : Fin 1 → IVec S16 32) a x).toNat < S1008.size a)
theorem k0_idx126_inb : ∀ (v292 : IVec S16 32) (k0_hw48 : k0_chk48 v292), ∀ a x, ((![v292] : Fin 1 → IVec S16 32) a x).toNat < S1008.size a := fun v292 k0_hw48 => k0_hw48.1
theorem k0_idx173_inb : ∀ (v292 : IVec S16 32) (k0_hw48 : k0_chk48 v292), ∀ a x, ((![v292] : Fin 1 → IVec S16 32) a x).toNat < S1008.size a := fun v292 k0_hw48 => k0_hw48.2.1
theorem k0_idx174_inb : ∀ (v292 : IVec S16 32) (k0_hw48 : k0_chk48 v292), ∀ a x, ((![v292] : Fin 1 → IVec S16 32) a x).toNat < S1008.size a := fun v292 k0_hw48 => k0_hw48.2.2.1
theorem k0_idx204_inb : ∀ (v292 : IVec S16 32) (k0_hw48 : k0_chk48 v292), ∀ a x, ((![v292] : Fin 1 → IVec S16 32) a x).toNat < S1008.size a := fun v292 k0_hw48 => k0_hw48.2.2.2

def k0_chk49 (v268 : IVec S16 32) : Prop :=
  (∀ a x, ((![v268] : Fin 1 → IVec S16 32) a x).toNat < S1008.size a) ∧
  (∀ a x, ((![v268] : Fin 1 → IVec S16 32) a x).toNat < S1008.size a) ∧
  (∀ a x, ((![v268] : Fin 1 → IVec S16 32) a x).toNat < S1008.size a) ∧
  (∀ a x, ((![v268] : Fin 1 → IVec S16 32) a x).toNat < S1008.size a)
theorem k0_idx127_inb : ∀ (v268 : IVec S16 32) (k0_hw49 : k0_chk49 v268), ∀ a x, ((![v268] : Fin 1 → IVec S16 32) a x).toNat < S1008.size a := fun v268 k0_hw49 => k0_hw49.1
theorem k0_idx175_inb : ∀ (v268 : IVec S16 32) (k0_hw49 : k0_chk49 v268), ∀ a x, ((![v268] : Fin 1 → IVec S16 32) a x).toNat < S1008.size a := fun v268 k0_hw49 => k0_hw49.2.1
theorem k0_idx176_inb : ∀ (v268 : IVec S16 32) (k0_hw49 : k0_chk49 v268), ∀ a x, ((![v268] : Fin 1 → IVec S16 32) a x).toNat < S1008.size a := fun v268 k0_hw49 => k0_hw49.2.2.1
theorem k0_idx205_inb : ∀ (v268 : IVec S16 32) (k0_hw49 : k0_chk49 v268), ∀ a x, ((![v268] : Fin 1 → IVec S16 32) a x).toNat < S1008.size a := fun v268 k0_hw49 => k0_hw49.2.2.2

def k0_chk50 (v294 : IVec S16 32) : Prop :=
  (∀ a x, ((![v294] : Fin 1 → IVec S16 32) a x).toNat < S1008.size a) ∧
  (∀ a x, ((![v294] : Fin 1 → IVec S16 32) a x).toNat < S1008.size a) ∧
  (∀ a x, ((![v294] : Fin 1 → IVec S16 32) a x).toNat < S1008.size a) ∧
  (∀ a x, ((![v294] : Fin 1 → IVec S16 32) a x).toNat < S1008.size a)
theorem k0_idx128_inb : ∀ (v294 : IVec S16 32) (k0_hw50 : k0_chk50 v294), ∀ a x, ((![v294] : Fin 1 → IVec S16 32) a x).toNat < S1008.size a := fun v294 k0_hw50 => k0_hw50.1
theorem k0_idx177_inb : ∀ (v294 : IVec S16 32) (k0_hw50 : k0_chk50 v294), ∀ a x, ((![v294] : Fin 1 → IVec S16 32) a x).toNat < S1008.size a := fun v294 k0_hw50 => k0_hw50.2.1
theorem k0_idx178_inb : ∀ (v294 : IVec S16 32) (k0_hw50 : k0_chk50 v294), ∀ a x, ((![v294] : Fin 1 → IVec S16 32) a x).toNat < S1008.size a := fun v294 k0_hw50 => k0_hw50.2.2.1
theorem k0_idx206_inb : ∀ (v294 : IVec S16 32) (k0_hw50 : k0_chk50 v294), ∀ a x, ((![v294] : Fin 1 → IVec S16 32) a x).toNat < S1008.size a := fun v294 k0_hw50 => k0_hw50.2.2.2

def k0_chk51 (v270 : IVec S16 32) : Prop :=
  (∀ a x, ((![v270] : Fin 1 → IVec S16 32) a x).toNat < S1008.size a) ∧
  (∀ a x, ((![v270] : Fin 1 → IVec S16 32) a x).toNat < S1008.size a) ∧
  (∀ a x, ((![v270] : Fin 1 → IVec S16 32) a x).toNat < S1008.size a) ∧
  (∀ a x, ((![v270] : Fin 1 → IVec S16 32) a x).toNat < S1008.size a)
theorem k0_idx129_inb : ∀ (v270 : IVec S16 32) (k0_hw51 : k0_chk51 v270), ∀ a x, ((![v270] : Fin 1 → IVec S16 32) a x).toNat < S1008.size a := fun v270 k0_hw51 => k0_hw51.1
theorem k0_idx179_inb : ∀ (v270 : IVec S16 32) (k0_hw51 : k0_chk51 v270), ∀ a x, ((![v270] : Fin 1 → IVec S16 32) a x).toNat < S1008.size a := fun v270 k0_hw51 => k0_hw51.2.1
theorem k0_idx180_inb : ∀ (v270 : IVec S16 32) (k0_hw51 : k0_chk51 v270), ∀ a x, ((![v270] : Fin 1 → IVec S16 32) a x).toNat < S1008.size a := fun v270 k0_hw51 => k0_hw51.2.2.1
theorem k0_idx207_inb : ∀ (v270 : IVec S16 32) (k0_hw51 : k0_chk51 v270), ∀ a x, ((![v270] : Fin 1 → IVec S16 32) a x).toNat < S1008.size a := fun v270 k0_hw51 => k0_hw51.2.2.2

def k0_chk52 (v296 : IVec S16 32) : Prop :=
  (∀ a x, ((![v296] : Fin 1 → IVec S16 32) a x).toNat < S1008.size a) ∧
  (∀ a x, ((![v296] : Fin 1 → IVec S16 32) a x).toNat < S1008.size a) ∧
  (∀ a x, ((![v296] : Fin 1 → IVec S16 32) a x).toNat < S1008.size a) ∧
  (∀ a x, ((![v296] : Fin 1 → IVec S16 32) a x).toNat < S1008.size a)
theorem k0_idx130_inb : ∀ (v296 : IVec S16 32) (k0_hw52 : k0_chk52 v296), ∀ a x, ((![v296] : Fin 1 → IVec S16 32) a x).toNat < S1008.size a := fun v296 k0_hw52 => k0_hw52.1
theorem k0_idx181_inb : ∀ (v296 : IVec S16 32) (k0_hw52 : k0_chk52 v296), ∀ a x, ((![v296] : Fin 1 → IVec S16 32) a x).toNat < S1008.size a := fun v296 k0_hw52 => k0_hw52.2.1
theorem k0_idx182_inb : ∀ (v296 : IVec S16 32) (k0_hw52 : k0_chk52 v296), ∀ a x, ((![v296] : Fin 1 → IVec S16 32) a x).toNat < S1008.size a := fun v296 k0_hw52 => k0_hw52.2.2.1
theorem k0_idx208_inb : ∀ (v296 : IVec S16 32) (k0_hw52 : k0_chk52 v296), ∀ a x, ((![v296] : Fin 1 → IVec S16 32) a x).toNat < S1008.size a := fun v296 k0_hw52 => k0_hw52.2.2.2
abbrev grid1 : Pipeline.Grid := ⟨1, ![25], ![false]⟩

def k1_off1 (i : grid1.Coords) : Fin 3 → Nat :=
  let arg0 : BitVec 32 := BitVec.ofNat 32 (i 0).val
  let c8_i32 : BitVec 32 := 8#32
  let v3 : BitVec 32 := Scalar.muli arg0 c8_i32
  let v4 : Index := Scalar.indexCast v3
  let c0 : Index := 0#32
  let c0_1 : Index := 0#32
  ![v4.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S1x64 : Shape := ⟨2, ![1, 64]⟩
abbrev S64 : Shape := ⟨1, ![64]⟩
abbrev S64x64 : Shape := ⟨2, ![64, 64]⟩
abbrev S_ : Shape := ⟨0, ![]⟩
abbrev S1024x1000 : Shape := ⟨2, ![1024, 1000]⟩
abbrev S1024x200x1 : Shape := ⟨3, ![1024, 200, 1]⟩
abbrev S1024x200x2 : Shape := ⟨3, ![1024, 200, 2]⟩
abbrev S1024x200x2x1 : Shape := ⟨4, ![1024, 200, 2, 1]⟩
abbrev S1x1x1x64 : Shape := ⟨4, ![1, 1, 1, 64]⟩
abbrev S1024x200x2x64 : Shape := ⟨4, ![1024, 200, 2, 64]⟩
abbrev S1024x200x64 : Shape := ⟨3, ![1024, 200, 64]⟩

abbrev nBuf : Space → Nat
  | .hbm => 189
  | .vmem => 0
  | .smem => 0
  | _ => 0

abbrev hbmTy0_0 (i : Nat) : BufTy := match i % 128 with
  | 0 => ⟨S1024x200, .i32⟩
  | 1 => ⟨S1024x200, .i32⟩
  | 2 => ⟨S1x64, .f32⟩
  | 3 => ⟨S64, .f32⟩
  | 4 => ⟨S64x64, .f32⟩
  | 5 => ⟨S64, .f32⟩
  | 6 => ⟨S_, .i32⟩
  | 7 => ⟨S1024x200, .i32⟩
  | 8 => ⟨S1024x200, .i1⟩
  | 9 => ⟨S_, .i32⟩
  | 10 => ⟨S1024x200, .i32⟩
  | 11 => ⟨S1024x200, .i1⟩
  | 12 => ⟨S_, .i32⟩
  | 13 => ⟨S_, .i32⟩
  | 14 => ⟨S1024x200, .i32⟩
  | 15 => ⟨S1024x200, .i32⟩
  | 16 => ⟨S_, .i32⟩
  | 17 => ⟨S_, .i32⟩
  | 18 => ⟨S1024x200, .i32⟩
  | 19 => ⟨S1024x200, .i32⟩
  | 20 => ⟨S1024x200, .i32⟩
  | 21 => ⟨S_, .f32⟩
  | 22 => ⟨S1024x1000, .f32⟩
  | 23 => ⟨S1024x200, .f32⟩
  | 24 => ⟨S_, .i32⟩
  | 25 => ⟨S1024x200, .i32⟩
  | 26 => ⟨S1024x200, .i1⟩
  | 27 => ⟨S_, .i32⟩
  | 28 => ⟨S1024x200, .i32⟩
  | 29 => ⟨S1024x200, .i32⟩
  | 30 => ⟨S1024x200, .i32⟩
  | 31 => ⟨S_, .i32⟩
  | 32 => ⟨S1024x200, .i32⟩
  | 33 => ⟨S1024x200, .i1⟩
  | 34 => ⟨S_, .i32⟩
  | 35 => ⟨S1024x200, .i32⟩
  | 36 => ⟨S1024x200, .i32⟩
  | 37 => ⟨S1024x200, .i32⟩
  | 38 => ⟨S1024x200x1, .i32⟩
  | 39 => ⟨S1024x200x1, .i32⟩
  | 40 => ⟨S1024x200x2, .i32⟩
  | 41 => ⟨S1024x1000, .f32⟩
  | 42 => ⟨S_, .f32⟩
  | 43 => ⟨S1024x1000, .f32⟩
  | 44 => ⟨S1024x200, .f32⟩
  | 45 => ⟨S_, .i32⟩
  | 46 => ⟨S1024x200, .i32⟩
  | 47 => ⟨S1024x200, .i1⟩
  | 48 => ⟨S_, .i32⟩
  | 49 => ⟨S1024x200, .i32⟩
  | 50 => ⟨S1024x200, .i32⟩
  | 51 => ⟨S1024x200, .i32⟩
  | 52 => ⟨S_, .i32⟩
  | 53 => ⟨S1024x200, .i32⟩
  | 54 => ⟨S1024x200, .i1⟩
  | 55 => ⟨S_, .i32⟩
  | 56 => ⟨S1024x200, .i32⟩
  | 57 => ⟨S1024x200, .i32⟩
  | 58 => ⟨S1024x200, .i32⟩
  | 59 => ⟨S1024x200x1, .i32⟩
  | 60 => ⟨S1024x200x1, .i32⟩
  | 61 => ⟨S1024x200x2, .i32⟩
  | 62 => ⟨S1024x1000, .f32⟩
  | 63 => ⟨S_, .i32⟩
  | 64 => ⟨S1024x200, .i32⟩
  | 65 => ⟨S1024x200, .i1⟩
  | 66 => ⟨S_, .i32⟩
  | 67 => ⟨S1024x200, .i32⟩
  | 68 => ⟨S1024x200, .i32⟩
  | 69 => ⟨S1024x200, .i32⟩
  | 70 => ⟨S_, .i32⟩
  | 71 => ⟨S1024x200, .i32⟩
  | 72 => ⟨S1024x200, .i1⟩
  | 73 => ⟨S_, .i32⟩
  | 74 => ⟨S1024x200, .i32⟩
  | 75 => ⟨S1024x200, .i32⟩
  | 76 => ⟨S1024x200, .i32⟩
  | 77 => ⟨S1024x200x1, .i32⟩
  | 78 => ⟨S1024x200x1, .i32⟩
  | 79 => ⟨S1024x200x2, .i32⟩
  | 80 => ⟨S1024x200, .f32⟩
  | 81 => ⟨S_, .i32⟩
  | 82 => ⟨S1024x200, .i32⟩
  | 83 => ⟨S1024x200, .i1⟩
  | 84 => ⟨S_, .i32⟩
  | 85 => ⟨S1024x200, .i32⟩
  | 86 => ⟨S1024x200, .i32⟩
  | 87 => ⟨S1024x200, .i32⟩
  | 88 => ⟨S_, .i32⟩
  | 89 => ⟨S1024x200, .i32⟩
  | 90 => ⟨S1024x200, .i1⟩
  | 91 => ⟨S_, .i32⟩
  | 92 => ⟨S1024x200, .i32⟩
  | 93 => ⟨S1024x200, .i32⟩
  | 94 => ⟨S1024x200, .i32⟩
  | 95 => ⟨S1024x200x1, .i32⟩
  | 96 => ⟨S1024x200x1, .i32⟩
  | 97 => ⟨S1024x200x2, .i32⟩
  | 98 => ⟨S1024x200, .f32⟩
  | 99 => ⟨S_, .i32⟩
  | 100 => ⟨S1024x200, .i32⟩
  | 101 => ⟨S1024x200, .i1⟩
  | 102 => ⟨S_, .i32⟩
  | 103 => ⟨S1024x200, .i32⟩
  | 104 => ⟨S1024x200, .i32⟩
  | 105 => ⟨S1024x200, .i32⟩
  | 106 => ⟨S_, .i32⟩
  | 107 => ⟨S1024x200, .i32⟩
  | 108 => ⟨S1024x200, .i1⟩
  | 109 => ⟨S_, .i32⟩
  | 110 => ⟨S1024x200, .i32⟩
  | 111 => ⟨S1024x200, .i32⟩
  | 112 => ⟨S1024x200, .i32⟩
  | 113 => ⟨S1024x200x1, .i32⟩
  | 114 => ⟨S1024x200x1, .i32⟩
  | 115 => ⟨S1024x200x2, .i32⟩
  | 116 => ⟨S1024x200, .f32⟩
  | 117 => ⟨S_, .i32⟩
  | 118 => ⟨S1024x200, .i32⟩
  | 119 => ⟨S1024x200, .i1⟩
  | 120 => ⟨S_, .i32⟩
  | 121 => ⟨S1024x200, .i32⟩
  | 122 => ⟨S1024x200, .i32⟩
  | 123 => ⟨S1024x200, .i32⟩
  | 124 => ⟨S_, .i32⟩
  | 125 => ⟨S1024x200, .i32⟩
  | 126 => ⟨S1024x200, .i1⟩
  | 127 => ⟨S_, .i32⟩
  | _ => ⟨S1024x200, .i32⟩

abbrev hbmTy0_1 (i : Nat) : BufTy := match i % 128 with
  | 0 => ⟨S1024x200, .i32⟩
  | 1 => ⟨S1024x200, .i32⟩
  | 2 => ⟨S1024x200, .i32⟩
  | 3 => ⟨S1024x200x1, .i32⟩
  | 4 => ⟨S1024x200x1, .i32⟩
  | 5 => ⟨S1024x200x2, .i32⟩
  | 6 => ⟨S1024x200, .f32⟩
  | 7 => ⟨S1024x200x1, .f32⟩
  | 8 => ⟨S1024x200x1, .f32⟩
  | 9 => ⟨S1024x200x2, .f32⟩
  | 10 => ⟨S1024x200x1, .f32⟩
  | 11 => ⟨S1024x200x1, .f32⟩
  | 12 => ⟨S1024x200x2, .f32⟩
  | 13 => ⟨S1024x200x1, .i1⟩
  | 14 => ⟨S_, .f32⟩
  | 15 => ⟨S_, .f32⟩
  | 16 => ⟨S1024x200x2, .i1⟩
  | 17 => ⟨S1024x200x2, .f32⟩
  | 18 => ⟨S1024x200x2, .f32⟩
  | 19 => ⟨S1024x200x1, .i1⟩
  | 20 => ⟨S_, .f32⟩
  | 21 => ⟨S_, .f32⟩
  | 22 => ⟨S1024x200x2, .i1⟩
  | 23 => ⟨S1024x200x2, .f32⟩
  | 24 => ⟨S1024x200x2, .f32⟩
  | 25 => ⟨S1024x200x2x1, .f32⟩
  | 26 => ⟨S64, .f32⟩
  | 27 => ⟨S1x1x1x64, .f32⟩
  | 28 => ⟨S1024x200x2x64, .f32⟩
  | 29 => ⟨S1024x200x2x64, .f32⟩
  | 30 => ⟨S1024x200x2x64, .f32⟩
  | 31 => ⟨S1x1x1x64, .f32⟩
  | 32 => ⟨S1024x200x2x64, .f32⟩
  | 33 => ⟨S1024x200x2x64, .f32⟩
  | 34 => ⟨S_, .f32⟩
  | 35 => ⟨S1024x200x2x64, .f32⟩
  | 36 => ⟨S1024x200x2x64, .f32⟩
  | 37 => ⟨S1024x200x2x64, .f32⟩
  | 38 => ⟨S1x1x1x64, .f32⟩
  | 39 => ⟨S1024x200x2x64, .f32⟩
  | 40 => ⟨S1024x200x2x64, .f32⟩
  | 41 => ⟨S_, .f32⟩
  | 42 => ⟨S1024x200x64, .f32⟩
  | 43 => ⟨S1024x200x2x1, .f32⟩
  | 44 => ⟨S64, .f32⟩
  | 45 => ⟨S1x1x1x64, .f32⟩
  | 46 => ⟨S1024x200x2x64, .f32⟩
  | 47 => ⟨S1024x200x2x64, .f32⟩
  | 48 => ⟨S1024x200x2x64, .f32⟩
  | 49 => ⟨S1x1x1x64, .f32⟩
  | 50 => ⟨S1024x200x2x64, .f32⟩
  | 51 => ⟨S1024x200x2x64, .f32⟩
  | 52 => ⟨S_, .f32⟩
  | 53 => ⟨S1024x200x2x64, .f32⟩
  | 54 => ⟨S1024x200x2x64, .f32⟩
  | 55 => ⟨S1024x200x2x64, .f32⟩
  | 56 => ⟨S1x1x1x64, .f32⟩
  | 57 => ⟨S1024x200x2x64, .f32⟩
  | 58 => ⟨S1024x200x2x64, .f32⟩
  | 59 => ⟨S_, .f32⟩
  | 60 => ⟨S1024x200x64, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_c_9 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_12 : Ref sig .tc := ⟨.hbm, 63, rfl⟩
abbrev main_v39 : Ref sig .tc := ⟨.hbm, 64, rfl⟩
abbrev main_v40 : Ref sig .tc := ⟨.hbm, 65, rfl⟩
abbrev main_c_13 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_14 : Ref sig .tc := ⟨.hbm, 70, rfl⟩
abbrev main_v44 : Ref sig .tc := ⟨.hbm, 71, rfl⟩
abbrev main_v45 : Ref sig .tc := ⟨.hbm, 72, rfl⟩
abbrev main_c_15 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_16 : Ref sig .tc := ⟨.hbm, 81, rfl⟩
abbrev main_v53 : Ref sig .tc := ⟨.hbm, 82, rfl⟩
abbrev main_v54 : Ref sig .tc := ⟨.hbm, 83, rfl⟩
abbrev main_c_17 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_18 : Ref sig .tc := ⟨.hbm, 88, rfl⟩
abbrev main_v58 : Ref sig .tc := ⟨.hbm, 89, rfl⟩
abbrev main_v59 : Ref sig .tc := ⟨.hbm, 90, rfl⟩
abbrev main_c_19 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_20 : Ref sig .tc := ⟨.hbm, 99, rfl⟩
abbrev main_v67 : Ref sig .tc := ⟨.hbm, 100, rfl⟩
abbrev main_v68 : Ref sig .tc := ⟨.hbm, 101, rfl⟩
abbrev main_c_21 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_22 : Ref sig .tc := ⟨.hbm, 106, rfl⟩
abbrev main_v72 : Ref sig .tc := ⟨.hbm, 107, rfl⟩
abbrev main_v73 : Ref sig .tc := ⟨.hbm, 108, rfl⟩
abbrev main_c_23 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_24 : Ref sig .tc := ⟨.hbm, 117, rfl⟩
abbrev main_v81 : Ref sig .tc := ⟨.hbm, 118, rfl⟩
abbrev main_v82 : Ref sig .tc := ⟨.hbm, 119, rfl⟩
abbrev main_c_25 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_26 : Ref sig .tc := ⟨.hbm, 124, rfl⟩
abbrev main_v86 : Ref sig .tc := ⟨.hbm, 125, rfl⟩
abbrev main_v87 : Ref sig .tc := ⟨.hbm, 126, rfl⟩
abbrev main_c_27 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_28 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_v102 : Ref sig .tc := ⟨.hbm, 146, rfl⟩
abbrev main_v103 : Ref sig .tc := ⟨.hbm, 147, rfl⟩
abbrev main_cst_29 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_call4_cst : Ref sig .tc := ⟨.hbm, 162, rfl⟩
abbrev main_call4_v0 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_30 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_call5_cst : Ref sig .tc := ⟨.hbm, 180, rfl⟩
abbrev main_call5_v0 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_31 : Ref sig .tc := ⟨.hbm, 187, rfl⟩
abbrev main_v134 : Ref sig .tc := ⟨.hbm, 188, rfl⟩

abbrev nD : Nat := 1
abbrev τ : Topo := Topo.v7x

variable {F : FTy → Type} [FloatOps F]
-- ==== Proof.Trip.lean ====
/-
  One trip of a tile's row loop, written as a program over lists of columns, and the fact that the printed trip is that program.
  A trip handles two rows; each row reads its 13 groups of 16 words from the two id buffers, adds one into the two count tables at
  every word, reads both tables back at every word into the two count rows, and subtracts one at every word again.
-/
module

public import proofs.«01_k».proof.KernelIdeal

@[expose] public section

noncomputable section

namespace Cert.KernelIdeal

open Idealize.ShloMosaic Idealize.SL.Sem
open Facts₀ Facts

variable {F : FTy → Type} [FloatOps F] [Facts]

/-- The programs of the tile at grid point `i`. -/
abbrev TileProg (F : FTy → Type) (i : grid0.Coords) (α : Type) : Type 1 :=
  Prog (TpuEff nD τ sig (Elt F) Λ₀ (.scVector ((i 0).castLE hcore0) ((i 1).castLE hsub0))) α

/-- Where a group of 16 words of one row lies in a tile's 32 × 208 buffer. -/
abbrev Off : Type := {off : Fin 2 → Nat // ∀ a, off a + S1x16.size a ≤ S32x208.size a}

/-- Sixteen words that all name an entry of a count table. -/
abbrev Words : Type := {v : IVec S16 32 // k0_chk1 v}

/-- The words a group holds. -/
abbrev wordsOf (ld : Vec F S1x16 .i32) : IVec S16 32 := shapeCast S16 ld shapeCasts_S1x16_S16

/-- Read the groups in turn, checking that each one's words name table entries, and go on with them. -/
def loadK (i : grid0.Coords) (m : Memref sig .scVector .vmem S32x208 .i32) {α : Type} :
    List Off → (List Words → TileProg F i α) → TileProg F i α
  | [], k => k []
  | o :: os, k =>
    .op (.load m (Rect.unit (s := S32x208) o.1 S1x16.size o.2).toLoadRect (View.loadsAt_vmem h_S1x16)) fun (ld : Vec F S1x16 .i32) =>
    .op (TpuEff.assume (k0_chk1 (wordsOf ld)) (k0_chk1.dec _)) fun hw =>
    loadK i m os fun xs => k (⟨wordsOf ld, hw.down⟩ :: xs)

/-- Add `val` into the first table at each first group's words and into the second at each second group's, then go on. -/
def scatterK (i : grid0.Coords) (tcs tcd : Memref sig .scVector .vmem S1008 .f32) (val : FVec F S16 .f32) {α : Type} :
    List (Words × Words) → TileProg F i α → TileProg F i α
  | [], k => k
  | (s, d) :: l, k =>
    SparseCore.vectorStoreIdx tcs ![s.1] val (fun _ => 1#1) true (k0_idx1_inb s.1 s.2) (View.stores_vmem_bits_univ h_S1008 rfl) >>= fun _ =>
    SparseCore.vectorStoreIdx tcd ![d.1] val (fun _ => 1#1) true (k0_idx1_inb d.1 d.2) (View.stores_vmem_bits_univ h_S1008 rfl) >>= fun _ =>
    scatterK i tcs tcd val l k

/-- Write one group of a count row, the sum of the two tables at the words, and go on. -/
def gatherColK (i : grid0.Coords) (t₁ t₂ : Memref sig .scVector .vmem S1008 .f32) (out : Memref sig .scVector .vmem S32x208 .f32)
    (o : Off) (w : Words) {α : Type} (k : TileProg F i α) : TileProg F i α :=
  SparseCore.vectorLoadIdx t₁ ![w.1] (k0_idx1_inb w.1 w.2) (View.loads_vmem h_S1008) >>= fun (a : Vec F S16 .f32) =>
  SparseCore.vectorLoadIdx t₂ ![w.1] (k0_idx1_inb w.1 w.2) (View.loads_vmem h_S1008) >>= fun (b : Vec F S16 .f32) =>
  .op (.load out (Rect.unit (s := S32x208) o.1 S1x16.size o.2).toLoadRect (View.loadsAt_vmem h_S1x16)) fun _ =>
  .op (.store out (Rect.unit (s := S32x208) o.1 S1x16.size o.2) (shapeCast S1x16 (addf a b) shapeCasts_S16_S1x16) Finset.univ
    (View.stores_vmem_bits_univ h_S1x16 rfl) (.inl rfl)) fun _ => k

/-- Write the two count rows group by group, then go on. -/
def gatherK (i : grid0.Coords) (tcs tcd : Memref sig .scVector .vmem S1008 .f32) (fs fd : Memref sig .scVector .vmem S32x208 .f32) {α : Type} :
    List (Off × Words × Words) → TileProg F i α → TileProg F i α
  | [], k => k
  | (o, s, d) :: l, k => gatherColK i tcs tcd fs o s (gatherColK i tcd tcs fd o d (gatherK i tcs tcd fs fd l k))

/-- One row of a trip, and what follows. -/
def rowK (i : grid0.Coords) (ids_s ids_d : Memref sig .scVector .vmem S32x208 .i32) (tcs tcd : Memref sig .scVector .vmem S1008 .f32)
    (fs fd : Memref sig .scVector .vmem S32x208 .f32) (v3 : FVec F S16 .f32) (ld st : List Off) {α : Type} (k : TileProg F i α) :
    TileProg F i α :=
  loadK i ids_s ld fun ls =>
  loadK i ids_d ld fun ds =>
  scatterK i tcs tcd v3 (ls.zip ds) <|
  gatherK i tcs tcd fs fd (st.zip (ls.zip ds)) <|
  scatterK i tcs tcd (subf (broadcast S16 (Scalar.ofBits .f32 0x00000000#32)) v3) (ls.zip ds) k

/-- The groups the first row of trip `t` is read from. -/
def ld0 (t : Fin k0_t2_loop.trips) : List Off :=
  [⟨k0_off3 t, k0_off3_inb t⟩, ⟨k0_off4 t, k0_off4_inb t⟩, ⟨k0_off5 t, k0_off5_inb t⟩, ⟨k0_off6 t, k0_off6_inb t⟩,
   ⟨k0_off7 t, k0_off7_inb t⟩, ⟨k0_off8 t, k0_off8_inb t⟩, ⟨k0_off9 t, k0_off9_inb t⟩, ⟨k0_off10 t, k0_off10_inb t⟩,
   ⟨k0_off11 t, k0_off11_inb t⟩, ⟨k0_off12 t, k0_off12_inb t⟩, ⟨k0_off13 t, k0_off13_inb t⟩, ⟨k0_off14 t, k0_off14_inb t⟩,
   ⟨k0_off15 t, k0_off15_inb t⟩]

/-- The groups of row `r` of trip `t`, as the count rows name them. -/
def st0 (t : Fin k0_t2_loop.trips) (r : Fin 2) : List Off :=
  [⟨k0_off16 t (BitVec.ofNat 32 r.val), k0_off16_inb t r⟩, ⟨k0_off17 t (BitVec.ofNat 32 r.val), k0_off17_inb t r⟩,
   ⟨k0_off18 t (BitVec.ofNat 32 r.val), k0_off18_inb t r⟩, ⟨k0_off19 t (BitVec.ofNat 32 r.val), k0_off19_inb t r⟩,
   ⟨k0_off20 t (BitVec.ofNat 32 r.val), k0_off20_inb t r⟩, ⟨k0_off21 t (BitVec.ofNat 32 r.val), k0_off21_inb t r⟩,
   ⟨k0_off22 t (BitVec.ofNat 32 r.val), k0_off22_inb t r⟩, ⟨k0_off23 t (BitVec.ofNat 32 r.val), k0_off23_inb t r⟩,
   ⟨k0_off24 t (BitVec.ofNat 32 r.val), k0_off24_inb t r⟩, ⟨k0_off25 t (BitVec.ofNat 32 r.val), k0_off25_inb t r⟩,
   ⟨k0_off26 t (BitVec.ofNat 32 r.val), k0_off26_inb t r⟩, ⟨k0_off27 t (BitVec.ofNat 32 r.val), k0_off27_inb t r⟩,
   ⟨k0_off28 t (BitVec.ofNat 32 r.val), k0_off28_inb t r⟩]

/-- Two programs that begin with one effect agree when what follows does. -/
theorem op_congr.{v} {E : Type → Type v} {α β : Type} {e : E β} {k k' : β → Prog E α} (h : ∀ x, k x = k' x) :
    Prog.op e k = Prog.op e k' := congrArg _ (funext h)

set_option maxHeartbeats 0 in  -- 520 effects, one step each
set_option maxRecDepth 100000 in
/-- The printed trip is its first row's program, then its second's. -/
theorem trip_eq (i : grid0.Coords) (arg2 : Memref sig .scVector .hbm S1024x208 .i32) (harg2 : arg2.IsWhole)
    (arg3 : Memref sig .scVector .hbm S1024x208 .i32) (harg3 : arg3.IsWhole) (arg4 : Memref sig .scVector .hbm S1024x208 .f32)
    (harg4 : arg4.IsWhole) (arg5 : Memref sig .scVector .hbm S1024x208 .f32) (harg5 : arg5.IsWhole)
    (arg6 : Memref sig .scVector .vmem S32x208 .i32) (harg6 : arg6.IsWhole) (arg7 : Memref sig .scVector .vmem S32x208 .i32)
    (harg7 : arg7.IsWhole) (arg8 : Memref sig .scVector .vmem S1008 .f32) (harg8 : arg8.IsWhole)
    (arg9 : Memref sig .scVector .vmem S1008 .f32) (harg9 : arg9.IsWhole) (arg10 : Memref sig .scVector .vmem S1008 .f32)
    (harg10 : arg10.IsWhole) (arg11 : Memref sig .scVector .vmem S1008 .f32) (harg11 : arg11.IsWhole)
    (arg12 : Memref sig .scVector .vmem S32x208 .f32) (harg12 : arg12.IsWhole) (arg13 : Memref sig .scVector .vmem S32x208 .f32)
    (harg13 : arg13.IsWhole) (r0 r1 r2 r3 : DmaSems sig S_) (v3 : FVec F S16 .f32) (t : Fin k0_t2_loop.trips) :
    k0_part16 i arg2 harg2 arg3 harg3 arg4 harg4 arg5 harg5 arg6 harg6 arg7 harg7 arg8 harg8 arg9 harg9 arg10 harg10 arg11 harg11
        arg12 harg12 arg13 harg13 r0 r1 r2 r3 v3 0#32 1#32 t
      = rowK i arg6 arg7 arg8 arg9 arg12 arg13 v3 (ld0 t) (st0 t 0)
          (rowK i arg6 arg7 arg10 arg11 arg12 arg13 v3 (st0 t 1) (st0 t 1) (.ret ⟨⟩)) := by
  iterate 520
    (conv => lhs; whnf)
    (conv => rhs; whnf)
    refine op_congr fun _ => ?_
  rfl

end Cert.KernelIdeal
end
-- ==== Proof.Setup.lean ====
/-
  The program as the launch of its SparseCore call sees it: the label table, the call's configuration, the resource algebra
  (the handshake's rounds, the rounds of the TensorCore's pipeline, and the counters of a tile's own copies), and the buffers.
-/
module

public import proofs.«01_k».proof.KernelIdeal
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the call's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UT : Type := URounds (GSem nD τ sig) Unit
abbrev UC : Type := UT × Counters
abbrev UU : Type := UH × UC

local notation "𝕄" => MT nD τ sig (HIx 1) (Elt F) ℕ UU ℕ

/-- The handshake's rounds. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The TensorCore pipeline's rounds. -/
def ET : Emb UT (MT nD τ sig (HIx 1) (Elt F) ℕ UU ℕ) :=
  ((Emb.inl : Emb UT UC).trans (Emb.inr : Emb UC UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance ET_landsIn : (ET : Emb UT 𝕄).LandsIn (upEmb : UEmb _ 𝕄) := by unfold ET; infer_instance

/-- A tile's own copies keep their counters in the last factor. -/
instance counters_in : CountersIn UU := inferInstance

/-! ## A tile's thread and buffers -/

abbrev cV (i : grid0.Coords) : Fin τ.nSC := (i 0).castLE hcore0
abbrev jV (i : grid0.Coords) : Fin τ.nSub := (i 1).castLE hsub0
/-- The thread of the tile at grid point `i`. -/
abbrev thr (d : Dev nD) (i : grid0.Coords) : Thread nD τ := V d (cV i) (jV i)

end Cert.KernelIdeal.Run
-- ==== Proof.TripWp.lean ====
/-
  What one trip of a tile's row loop does to the tile's memory: the id buffers are unchanged, each count table is added to and
  subtracted from at the row's words, and the two count rows receive the sums of the tables read back at the words. Each list
  program of Trip.lean is run by one induction over its list.
-/
module

public import proofs.«01_k».proof.Proof.Trip
public import proofs.«01_k».proof.Proof.Setup
public import Idealize.ShloMosaic.Lib.Memref

@[expose] public section

noncomputable section

namespace Cert.KernelIdeal.Run

open Cert.KernelIdeal Cert.KernelIdeal.Gen
open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The values -/

/-- The rectangle of a group. -/
abbrev rOf (o : Off) : Rect S32x208 := Rect.unit (s := S32x208) o.1 S1x16.size o.2

/-- The words of the group at `o`. -/
def wordsAt (X : S32x208.Idx → Elt F .i32) (o : Off) : IVec S16 32 :=
  wordsOf (F := F) fun x => X ((rOf o).emb x)

/-- Every word of the buffer names a table entry. -/
def Named (X : S32x208.Idx → Elt F .i32) : Prop := ∀ j, (X j : BitVec 32).toNat < 1008

omit [FloatOps F] in
theorem wordsAt_chk {X : S32x208.Idx → Elt F .i32} (h : Named X) (o : Off) : k0_chk1 (wordsAt X o) := by
  have : ∀ a x, ((![wordsAt X o] : Fin 1 → IVec S16 32) a x).toNat < S1008.size a := by
    intro a x; fin_cases a; exact h _
  exact ⟨this, this, this, this⟩

/-- The words of the group at `o`, each naming a table entry. -/
def grp {X : S32x208.Idx → Elt F .i32} (h : Named X) (o : Off) : Words := ⟨wordsAt X o, wordsAt_chk h o⟩

/-- A table after `val` is added at the words of each group in turn. -/
def scat (val : FVec F S16 .f32) (ws : List Words) (T : S1008.Idx → Elt F .f32) : S1008.Idx → Elt F .f32 :=
  ws.foldl (fun T w => storeIdx T ![w.1] val (fun _ => 1#1) true (k0_idx1_inb w.1 w.2)) T

/-- The sum of the two tables at a group's words. -/
def both (T U : S1008.Idx → Elt F .f32) (w : Words) : FVec F S16 .f32 :=
  addf (loadIdx T ![w.1] (k0_idx1_inb w.1 w.2) : FVec F S16 .f32)
    (loadIdx U ![w.1] (k0_idx1_inb w.1 w.2) : FVec F S16 .f32)

/-- A count row after one group is written. -/
def put (T U : S1008.Idx → Elt F .f32) (A : S32x208.Idx → Elt F .f32) (o : Off) (w : Words) : S32x208.Idx → Elt F .f32 :=
  (rOf o).overlay A (shapeCast S1x16 (both T U w) shapeCasts_S16_S1x16 : FVec F S1x16 .f32)

/-- A count row after each group is written in turn. -/
def gath (T U : S1008.Idx → Elt F .f32) (l : List (Off × Words)) (A : S32x208.Idx → Elt F .f32) : S32x208.Idx → Elt F .f32 :=
  l.foldl (fun A p => put T U A p.1 p.2) A

/-! ## Reading and writing an owned buffer -/

section Steps

variable (d : Dev nD) (i : grid0.Coords)

/-- The tile's thread is at the processor its programs are at. -/
theorem thr_snd : (thr d i).2 = .scVector (cV i) (jV i) := rfl

/-- The tile owns the buffer whole, with the contents `X`. -/
abbrev own {sp : Space} {s : Shape} {e : EltTy} (m : Memref sig .scVector sp s e) (X : s.Idx → Elt F e) : sProp 𝕄 :=
  owns (thr d i) m fullShare X

theorem wp_own_load {s : Shape} {e : EltTy} (m : Memref sig .scVector .vmem s e) {r : Rect s} {hl : m.view.LoadsAt r.toLoadRect} {α : Type}
    {k : (r.shape.Idx → Elt F e) → TileProg F i α} {Q : α → sProp 𝕄} (X : s.Idx → Elt F e) :
    own d i m X
      ⊢ iprop((own d i m X -∗ wp frame (wpE defs₀ 𝒱₀ (thr d i) none) Set.univ (k fun x => X (r.emb x)) Q)
        -∗ wp frame (wpE defs₀ 𝒱₀ (thr d i) none) Set.univ (.op (.load m r.toLoadRect hl) k) Q) := by
  unfold own owns
  iintro ⟨%f, %hf, H⟩ Hk
  subst hf
  iapply (wp_load_rect (defs := defs₀) 𝒱₀ (thr d i) none Set.univ (Q := Q) (m := m) (r := r) (hl := hl) (k := k)
    (S := m.view.set) (q := fullShare) (f := f) (View.set_slice_subset _ _)) $$ H
  iintro H
  iapply Hk
  iexists f
  isplitr
  · ipureintro; rfl
  · iexact H

theorem wp_own_store {s : Shape} {e : EltTy} (m : Memref sig .scVector .vmem s e) {r : Rect s} {w : r.shape.Idx → Elt F e}
    {hx : (m.access r).Stores Finset.univ} {hm : (Finset.univ : Finset r.shape.Idx) = Finset.univ ∨ ∀ a, r.stride a = 1} {α : Type}
    {k : PUnit → TileProg F i α} {Q : α → sProp 𝕄} (X : s.Idx → Elt F e) :
    own d i m X
      ⊢ iprop((own d i m (r.overlay X w) -∗ wp frame (wpE defs₀ 𝒱₀ (thr d i) none) Set.univ (k ⟨⟩) Q)
        -∗ wp frame (wpE defs₀ 𝒱₀ (thr d i) none) Set.univ (.op (.store m r w Finset.univ hx hm) k) Q) := by
  unfold own owns
  iintro ⟨%f, %hf, H⟩ Hk
  subst hf
  iapply (wp_store (defs := defs₀) 𝒱₀ (thr d i) none Set.univ (Q := Q) (m := m) (r := r) (w := w) (hx := hx) (hm := hm) (k := k)
    (S := m.view.set) (f := f) (View.set_slice_subset _ _)) $$ H
  iintro H
  iapply Hk
  iexists _
  isplitr
  rotate_left
  · iexact H
  · ipureintro
    funext j
    by_cases hj : j ∈ r.set
    · obtain ⟨x, rfl⟩ : ∃ x, r.emb x = j := by
        rw [← Rect.map_emb_univ] at hj; obtain ⟨x, -, hx⟩ := Finset.mem_map.mp hj; exact ⟨x, hx⟩
      rw [Rect.overlay_emb]
      exact View.read_slice_write_emb _ _ _ (Finset.mem_univ _)
    · rw [Rect.overlay_of_not_mem _ _ _ hj]
      exact View.read_slice_write_of_not_mem _ _ _ _ (by rw [Rect.map_emb_univ]; exact hj)

theorem wp_own_gather (m : Memref sig .scVector .vmem S1008 .f32) {w : Words} {hl : m.view.Loads} {α : Type}
    {k : Vec F S16 .f32 → TileProg F i α} {Q : α → sProp 𝕄} (X : S1008.Idx → Elt F .f32) :
    own d i m X
      ⊢ iprop((own d i m X -∗ wp frame (wpE defs₀ 𝒱₀ (thr d i) none) Set.univ (k (loadIdx X ![w.1] (k0_idx1_inb w.1 w.2))) Q)
        -∗ wp frame (wpE defs₀ 𝒱₀ (thr d i) none) Set.univ (SparseCore.vectorLoadIdx m ![w.1] (k0_idx1_inb w.1 w.2) hl >>= k) Q) := by
  unfold own owns
  iintro ⟨%f, %hf, H⟩ Hk
  subst hf
  iapply (SparseCore.wp_vectorLoadIdx (defs := defs₀) 𝒱₀ (thr d i) none Set.univ (Q := Q) (base := m) (hl := hl) (k := k)
    (S := m.view.set) (q := fullShare) (f := f) (View.set_slice_subset _ _)) $$ H
  iintro H
  have e : (m.access (.whole S1008)).read (Elt F) f = m.view.read (Elt F) f := by
    funext x; simp only [View.read_apply]; congr 2; exact congrArg m.view.emb (Rect.emb_whole_apply _ x)
  rw [e]
  iapply Hk
  iexists f
  isplitr
  · ipureintro; rfl
  · iexact H

theorem wp_own_scatter (m : Memref sig .scVector .vmem S1008 .f32) {w : Words} {val : FVec F S16 .f32}
    {hs : (m.access (.whole S1008)).Stores Finset.univ} {α : Type}
    {k : PUnit → TileProg F i α} {Q : α → sProp 𝕄} (X : S1008.Idx → Elt F .f32) :
    own d i m X
      ⊢ iprop((own d i m (storeIdx X ![w.1] val (fun _ => 1#1) true (k0_idx1_inb w.1 w.2))
          -∗ wp frame (wpE defs₀ 𝒱₀ (thr d i) none) Set.univ (k ⟨⟩) Q)
        -∗ wp frame (wpE defs₀ 𝒱₀ (thr d i) none) Set.univ
            (SparseCore.vectorStoreIdx m ![w.1] val (fun _ => 1#1) true (k0_idx1_inb w.1 w.2) hs >>= k) Q) := by
  unfold own owns
  iintro ⟨%f, %hf, H⟩ Hk
  subst hf
  have es : (m.access (.whole S1008)).set = m.view.set := by
    exact (View.set_slice _ _).trans (by rw [Rect.set_whole]; rfl)
  have e : ∀ g, (m.access (.whole S1008)).read (Elt F) g = m.view.read (Elt F) g := by
    intro g; funext x; simp only [View.read_apply]; congr 2; exact congrArg m.view.emb (Rect.emb_whole_apply _ x)
  rw [← es]
  iapply (SparseCore.wp_vectorStoreIdx (defs := defs₀) 𝒱₀ (thr d i) none Set.univ (Q := Q) (base := m) (hs := hs) (k := k) (f := f)) $$ H
  iintro H
  iapply Hk
  iexists _
  isplitr
  rotate_left
  · iexact H
  · ipureintro
    rw [← e, View.read_write_univ, e]

/-! ## The list programs -/

/-- Running `p` from what follows the program's own steps. -/
abbrev runs {α : Type} (p : TileProg F i α) (Q : α → sProp 𝕄) : sProp 𝕄 := wp frame (wpE defs₀ 𝒱₀ (thr d i) none) Set.univ p Q

theorem wp_loadK (m : Memref sig .scVector .vmem S32x208 .i32) {X : S32x208.Idx → Elt F .i32} (h : Named X) {α : Type} {Q : α → sProp 𝕄} :
    ∀ (os : List Off) (k : List Words → TileProg F i α),
      own d i m X ⊢ iprop((own d i m X -∗ runs d i (k (os.map (grp h))) Q) -∗ runs d i (loadK i m os k) Q)
  | [], k => by
    unfold loadK
    iintro H Hk
    iapply Hk
    iexact H
  | o :: os, k => by
    unfold loadK
    iintro H Hk
    iapply (wp_own_load d i m (r := rOf o) X) $$ H
    iintro H
    iapply (wp_assume (defs := defs₀) 𝒱₀ (thr d i) none Set.univ (wordsAt_chk h o))
    iapply (wp_loadK m h os _) $$ H
    iexact Hk

theorem wp_scatterK (tcs tcd : Memref sig .scVector .vmem S1008 .f32) (val : FVec F S16 .f32) {α : Type} (k : TileProg F i α) {Q : α → sProp 𝕄} :
    ∀ (l : List (Words × Words)) (T U : S1008.Idx → Elt F .f32),
      iprop(own d i tcs T ∗ own d i tcd U)
        ⊢ iprop((own d i tcs (scat val (l.map Prod.fst) T) ∗ own d i tcd (scat val (l.map Prod.snd) U) -∗ runs d i k Q)
          -∗ runs d i (scatterK i tcs tcd val l k) Q)
  | [], T₀, U₀ => by
    unfold scatterK
    iintro H Hk
    iapply Hk
    iexact H
  | (s, w) :: l, T₀, U₀ => by
    unfold scatterK
    iintro ⟨HT, HU⟩ Hk
    iapply (wp_own_scatter d i tcs T₀) $$ HT
    iintro HT
    iapply (wp_own_scatter d i tcd U₀) $$ HU
    iintro HU
    iapply (wp_scatterK tcs tcd val k l _ _) $$ [HT HU]
    · isplitl [HT]
      · iexact HT
      · iexact HU
    iexact Hk

theorem wp_gatherColK (t₁ t₂ : Memref sig .scVector .vmem S1008 .f32) (out : Memref sig .scVector .vmem S32x208 .f32) (o : Off) (w : Words)
    {α : Type} (k : TileProg F i α) {Q : α → sProp 𝕄} (T U : S1008.Idx → Elt F .f32) (A : S32x208.Idx → Elt F .f32) :
    iprop(own d i t₁ T ∗ own d i t₂ U ∗ own d i out A)
      ⊢ iprop((own d i t₁ T ∗ own d i t₂ U ∗ own d i out (put T U A o w) -∗ runs d i k Q)
        -∗ runs d i (gatherColK i t₁ t₂ out o w k) Q) := by
  unfold gatherColK
  iintro ⟨HT, HU, HA⟩ Hk
  iapply (wp_own_gather d i t₁ T) $$ HT
  iintro HT
  iapply (wp_own_gather d i t₂ U) $$ HU
  iintro HU
  iapply (wp_own_load d i out (r := rOf o) A) $$ HA
  iintro HA
  iapply (wp_own_store d i out (r := rOf o) A) $$ HA
  iintro HA
  iapply Hk
  isplitl [HT]
  · iexact HT
  isplitl [HU]
  · iexact HU
  iexact HA

theorem wp_gatherK (tcs tcd : Memref sig .scVector .vmem S1008 .f32) (fs fd : Memref sig .scVector .vmem S32x208 .f32)
    {α : Type} (k : TileProg F i α) {Q : α → sProp 𝕄} (T U : S1008.Idx → Elt F .f32) :
    ∀ (l : List (Off × Words × Words)) (A B : S32x208.Idx → Elt F .f32),
      iprop(own d i tcs T ∗ own d i tcd U ∗ own d i fs A ∗ own d i fd B)
        ⊢ iprop((own d i tcs T ∗ own d i tcd U ∗ own d i fs (gath T U (l.map fun p => (p.1, p.2.1)) A)
              ∗ own d i fd (gath U T (l.map fun p => (p.1, p.2.2)) B) -∗ runs d i k Q)
          -∗ runs d i (gatherK i tcs tcd fs fd l k) Q)
  | [], A, B => by
    unfold gatherK
    iintro H Hk
    iapply Hk
    iexact H
  | (o, s, w) :: l, A, B => by
    unfold gatherK
    iintro ⟨HT, HU, HA, HB⟩ Hk
    iapply (wp_gatherColK d i tcs tcd fs o s _ T U A) $$ [HT HU HA]
    · isplitl [HT]
      · iexact HT
      isplitl [HU]
      · iexact HU
      iexact HA
    iintro ⟨HT, HU, HA⟩
    iapply (wp_gatherColK d i tcd tcs fd o w _ U T B) $$ [HT HU HB]
    · isplitl [HU]
      · iexact HU
      isplitl [HT]
      · iexact HT
      iexact HB
    iintro ⟨HU, HT, HB⟩
    iapply (wp_gatherK tcs tcd fs fd k T U l _ _) $$ [HT HU HA HB]
    · isplitl [HT]
      · iexact HT
      isplitl [HU]
      · iexact HU
      isplitl [HA]
      · iexact HA
      iexact HB
    iexact Hk

/-! ## One row -/

omit [FloatOps F] in
theorem zip_fst {α β γ : Type} (st : List α) {l : List (β × γ)} {a : List β} (h : l.map Prod.fst = a) :
    ((st.zip l).map fun p => (p.1, p.2.1)) = st.zip a := by
  subst h; rw [List.zip_map_right]; rfl
omit [FloatOps F] in
theorem zip_snd {α β γ : Type} (st : List α) {l : List (β × γ)} {a : List γ} (h : l.map Prod.snd = a) :
    ((st.zip l).map fun p => (p.1, p.2.2)) = st.zip a := by
  subst h; rw [List.zip_map_right]; rfl

/-- The constant the row ends by adding: minus the one it began with. -/
abbrev negv (v3 : FVec F S16 .f32) : FVec F S16 .f32 := subf (broadcast S16 (Scalar.ofBits .f32 0x00000000#32)) v3

/-- A table at the time it is read: added to at the row's words. -/
abbrev tabUp {X : S32x208.Idx → Elt F .i32} (h : Named X) (v3 : FVec F S16 .f32) (ld : List Off) (T : S1008.Idx → Elt F .f32) :
    S1008.Idx → Elt F .f32 := scat v3 (ld.map (grp h)) T

/-- A table after the row: added to and subtracted from at the row's words. -/
abbrev tabEnd {X : S32x208.Idx → Elt F .i32} (h : Named X) (v3 : FVec F S16 .f32) (ld : List Off) (T : S1008.Idx → Elt F .f32) :
    S1008.Idx → Elt F .f32 := scat (negv v3) (ld.map (grp h)) (tabUp h v3 ld T)

/-- A count row after the row of the loop: the two tables, read at `X`'s words. -/
abbrev cntEnd {X : S32x208.Idx → Elt F .i32} (h : Named X) (ld st : List Off) (T U : S1008.Idx → Elt F .f32) (A : S32x208.Idx → Elt F .f32) :
    S32x208.Idx → Elt F .f32 := gath T U (st.zip (ld.map (grp h))) A

theorem wp_rowK (ids_s ids_d : Memref sig .scVector .vmem S32x208 .i32) (tcs tcd : Memref sig .scVector .vmem S1008 .f32)
    (fs fd : Memref sig .scVector .vmem S32x208 .f32) (v3 : FVec F S16 .f32) (ld st : List Off)
    {X Y : S32x208.Idx → Elt F .i32} (hX : Named X) (hY : Named Y) (T U : S1008.Idx → Elt F .f32) (A B : S32x208.Idx → Elt F .f32)
    {α : Type} (k : TileProg F i α) {Q : α → sProp 𝕄} :
    iprop(own d i ids_s X ∗ own d i ids_d Y ∗ own d i tcs T ∗ own d i tcd U ∗ own d i fs A ∗ own d i fd B)
      ⊢ iprop((own d i ids_s X ∗ own d i ids_d Y ∗ own d i tcs (tabEnd hX v3 ld T) ∗ own d i tcd (tabEnd hY v3 ld U)
            ∗ own d i fs (cntEnd hX ld st (tabUp hX v3 ld T) (tabUp hY v3 ld U) A)
            ∗ own d i fd (cntEnd hY ld st (tabUp hY v3 ld U) (tabUp hX v3 ld T) B) -∗ runs d i k Q)
        -∗ runs d i (rowK i ids_s ids_d tcs tcd fs fd v3 ld st k) Q) := by
  unfold rowK
  have e₁ : ((ld.map (grp hX)).zip (ld.map (grp hY))).map Prod.fst = ld.map (grp hX) := List.map_fst_zip (by simp)
  have e₂ : ((ld.map (grp hX)).zip (ld.map (grp hY))).map Prod.snd = ld.map (grp hY) := List.map_snd_zip (by simp)
  have e₃ : ((st.zip ((ld.map (grp hX)).zip (ld.map (grp hY)))).map fun p => (p.1, p.2.1)) = st.zip (ld.map (grp hX)) := zip_fst st e₁
  have e₄ : ((st.zip ((ld.map (grp hX)).zip (ld.map (grp hY)))).map fun p => (p.1, p.2.2)) = st.zip (ld.map (grp hY)) := zip_snd st e₂
  iintro ⟨HX, HY, HT, HU, HA, HB⟩ Hk
  iapply (wp_loadK d i ids_s hX ld _) $$ HX
  iintro HX
  iapply (wp_loadK d i ids_d hY ld _) $$ HY
  iintro HY
  iapply (wp_scatterK d i tcs tcd v3 _ _ T U) $$ [HT HU]
  · isplitl [HT]
    · iexact HT
    · iexact HU
  rw [e₁, e₂]
  iintro ⟨HT, HU⟩
  iapply (wp_gatherK d i tcs tcd fs fd _ _ _ _ A B) $$ [HT HU HA HB]
  · isplitl [HT]
    · iexact HT
    isplitl [HU]
    · iexact HU
    isplitl [HA]
    · iexact HA
    iexact HB
  rw [e₃, e₄]
  iintro ⟨HT, HU, HA, HB⟩
  iapply (wp_scatterK d i tcs tcd (negv v3) _ _ _ _) $$ [HT HU]
  · isplitl [HT]
    · iexact HT
    · iexact HU
  rw [e₁, e₂]
  iintro ⟨HT, HU⟩
  iapply Hk
  isplitl [HX]
  · iexact HX
  isplitl [HY]
  · iexact HY
  isplitl [HT]
  · iexact HT
  isplitl [HU]
  · iexact HU
  isplitl [HA]
  · iexact HA
  iexact HB

end Steps

end Cert.KernelIdeal.Run
-- ==== Proof.TripVal.lean ====
/-
  The values of a tile's loop: a row's groups in their canonical place, the tables before each row, and the count rows entry by
  entry — each entry the sum of the row's two tables, as the row's words have raised them, at the entry's own word.
-/
module

public import proofs.«01_k».proof.Proof.TripWp
public import Idealize.ShloMosaic.Lib.Pipeline.Value

@[expose] public section

noncomputable section

namespace Cert.KernelIdeal.Run

open Cert.KernelIdeal Cert.KernelIdeal.Gen
open Idealize.ShloMosaic

variable {F : FTy → Type} [FloatOps F]

/-! ## The groups of a row -/

theorem offAt_inb (r : ℕ) (c : Fin 13) : ∀ a, (![r % 32, 16 * c.val] : Fin 2 → ℕ) a + S1x16.size a ≤ S32x208.size a := by
  have hr : r % 32 < 32 := Nat.mod_lt _ (by decide)
  have hc := c.isLt
  intro a
  match a with
  | 0 => show r % 32 + 1 ≤ 32; omega
  | 1 => show 16 * c.val + 16 ≤ 208; omega

/-- Group `c` of row `r`. -/
def offAt (r : ℕ) (c : Fin 13) : Off := ⟨![r % 32, 16 * c.val], offAt_inb r c⟩

/-- The groups of row `r`, in order. -/
def offs (r : ℕ) : List Off := (List.finRange 13).map (offAt r)

theorem ld0_eq (t : Fin k0_t2_loop.trips) : ld0 t = offs (2 * t.val) := by
  have ht : 2 * t.val % 32 = 2 * t.val := Nat.mod_eq_of_lt (by have := t.isLt; have h : k0_t2_loop.trips = 16 := by decide
                                                               omega)
  show ld0 t = [offAt (2 * t.val) 0, offAt (2 * t.val) 1, offAt (2 * t.val) 2, offAt (2 * t.val) 3, offAt (2 * t.val) 4, offAt (2 * t.val) 5,
    offAt (2 * t.val) 6, offAt (2 * t.val) 7, offAt (2 * t.val) 8, offAt (2 * t.val) 9, offAt (2 * t.val) 10, offAt (2 * t.val) 11, offAt (2 * t.val) 12]
  unfold ld0
  simp only [k0_off3_eq, k0_off4_eq, k0_off5_eq, k0_off6_eq, k0_off7_eq, k0_off8_eq, k0_off9_eq, k0_off10_eq, k0_off11_eq, k0_off12_eq,
    k0_off13_eq, k0_off14_eq, k0_off15_eq, offAt, ht]
  rfl

theorem st0_eq (t : Fin k0_t2_loop.trips) (r : Fin 2) : st0 t r = offs (2 * t.val + r.val) := by
  have ht : (2 * t.val + r.val) % 32 = 2 * t.val + r.val := Nat.mod_eq_of_lt (by
    have := t.isLt; have h : k0_t2_loop.trips = 16 := by decide
    omega)
  show st0 t r = [offAt (2 * t.val + r.val) 0, offAt (2 * t.val + r.val) 1, offAt (2 * t.val + r.val) 2, offAt (2 * t.val + r.val) 3, offAt (2 * t.val + r.val) 4,
    offAt (2 * t.val + r.val) 5, offAt (2 * t.val + r.val) 6, offAt (2 * t.val + r.val) 7, offAt (2 * t.val + r.val) 8, offAt (2 * t.val + r.val) 9,
    offAt (2 * t.val + r.val) 10, offAt (2 * t.val + r.val) 11, offAt (2 * t.val + r.val) 12]
  unfold st0
  simp only [k0_off16_eq, k0_off17_eq, k0_off18_eq, k0_off19_eq, k0_off20_eq, k0_off21_eq, k0_off22_eq, k0_off23_eq, k0_off24_eq, k0_off25_eq,
    k0_off26_eq, k0_off27_eq, k0_off28_eq, offAt, ht]
  rfl

/-! ## Entries of a count row -/

/-- The group an entry is in, and its place in the group. -/
def cg (j : S32x208.Idx) : Fin 13 := ⟨(j 1).val / 16, by have : (j 1).val < 208 := (j 1).isLt; omega⟩
def ln (j : S32x208.Idx) : S16.Idx := Shape.ofLane (d := ![16]) ⟨(j 1).val % 16, Nat.mod_lt _ (by decide)⟩

/-- The place in a group, as the loaded row of sixteen names it. -/
def up16 (x : S16.Idx) : S1x16.Idx := Fin.cons ⟨0, Nat.one_pos⟩ x

theorem rOf_emb_val (o : Off) (x : S1x16.Idx) (a : Fin 2) : ((rOf o).emb x a).val = o.1 a + (x a).val := by
  show o.1 a + 1 * (x a).val = _
  omega

theorem emb_cg (j : S32x208.Idx) : (rOf (offAt (j 0).val (cg j))).emb (up16 (ln j)) = j := by
  have h0 : (j 0).val < 32 := (j 0).isLt
  refine Shape.idx_ext₂ ?_ ?_
  · rw [rOf_emb_val]; show (j 0).val % 32 + 0 = _; omega
  · rw [rOf_emb_val]; show 16 * ((j 1).val / 16) + (j 1).val % 16 = _; omega

theorem mem_rOf (r : ℕ) (c : Fin 13) (j : S32x208.Idx) (h : j ∈ (rOf (offAt r c)).set) : (j 0).val = r % 32 ∧ cg j = c := by
  rw [← Rect.map_emb_univ] at h
  obtain ⟨x, -, rfl⟩ := Finset.mem_map.mp h
  have h0 : (x 0).val < 1 := (x 0).isLt
  have h1 : (x 1).val < 16 := (x 1).isLt
  refine ⟨?_, Fin.ext ?_⟩
  · rw [rOf_emb_val]; show r % 32 + _ = _; omega
  · show ((rOf (offAt r c)).emb x 1).val / 16 = c.val
    rw [rOf_emb_val]; show (16 * c.val + _) / 16 = _; omega

theorem wordsAt_ln (X : S32x208.Idx → Elt F .i32) (j : S32x208.Idx) : wordsAt X (offAt (j 0).val (cg j)) (ln j) = X j := by
  unfold wordsAt wordsOf
  refine (shapeCast_dropUnit_apply (n := 1) ![16] _ _ (ln j)).trans ?_
  exact congrArg X (emb_cg j)

theorem put_hit (P R : S1008.Idx → Elt F .f32) (A : S32x208.Idx → Elt F .f32) (j : S32x208.Idx) (w : Words) :
    put P R A (offAt (j 0).val (cg j)) w j = both P R w (ln j) := by
  unfold put
  conv_lhs => rw [← emb_cg j]
  have e : cg ((rOf (offAt (j 0).val (cg j))).emb (up16 (ln j))) = cg j := by rw [emb_cg]
  have := Rect.overlay_emb (rOf (offAt (j 0).val (cg j))) A (shapeCast S1x16 (both P R w) shapeCasts_S16_S1x16 : FVec F S1x16 .f32) (up16 (ln j))
  refine Eq.trans ?_ (this.trans ?_)
  · rw [emb_cg j]
  · exact shapeCast_addUnit_apply (n := 1) ![16] (both P R w) _ (up16 (ln j))

theorem put_miss (P R : S1008.Idx → Elt F .f32) (A : S32x208.Idx → Elt F .f32) (r : ℕ) (c : Fin 13) (w : Words) (j : S32x208.Idx)
    (h : ¬ ((j 0).val = r % 32 ∧ cg j = c)) : put P R A (offAt r c) w j = A j :=
  Rect.overlay_of_not_mem _ _ _ fun hm => h (mem_rOf r c j hm)

theorem offAt_of_row {r : ℕ} {j : S32x208.Idx} (h : (j 0).val = r % 32) (c : Fin 13) : offAt r c = offAt (j 0).val c := by
  unfold offAt
  have : (j 0).val % 32 = r % 32 := by rw [h, Nat.mod_mod]
  simp only [this]

/-- After the groups `cs` of row `r` are written, the entries of those groups hold the tables' sum at their words, the others what they held. -/
theorem gath_apply (P R : S1008.Idx → Elt F .f32) (r : ℕ) (g : Fin 13 → Words) (j : S32x208.Idx) :
    ∀ (cs : List (Fin 13)) (A : S32x208.Idx → Elt F .f32),
      gath P R (cs.map fun c => (offAt r c, g c)) A j
        = if (j 0).val = r % 32 ∧ cg j ∈ cs then both P R (g (cg j)) (ln j) else A j
  | [], A => by simp [gath]
  | c :: cs, A => by
    have ih := gath_apply P R r g j cs (put P R A (offAt r c) (g c))
    refine ih.trans ?_
    by_cases h : (j 0).val = r % 32 ∧ cg j ∈ cs
    · rw [if_pos h, if_pos ⟨h.1, List.mem_cons_of_mem _ h.2⟩]
    · rw [if_neg h]
      by_cases h' : (j 0).val = r % 32 ∧ cg j = c
      · obtain ⟨h1, h2⟩ := h'
        subst h2
        rw [if_pos ⟨h1, List.mem_cons_self⟩, offAt_of_row h1, put_hit]
      · rw [put_miss _ _ _ _ _ _ _ h', if_neg]
        rintro ⟨h1, h2⟩
        rcases List.mem_cons.mp h2 with h2 | h2
        · exact h' ⟨h1, h2⟩
        · exact h ⟨h1, h2⟩

/-! ## The tables before each row, and the count rows -/

/-- The constant added at a row's words. -/
abbrev one16 : FVec F S16 .f32 := broadcast S16 (Scalar.ofBits .f32 0x3F800000#32)
/-- The constant the tables are cleared to. -/
abbrev zero16 : FVec F S16 .f32 := broadcast S16 (Scalar.ofBits .f32 0x00000000#32)
/-- A cleared table. -/
def cleared : S1008.Idx → Elt F .f32 := fun _ => (Scalar.ofBits .f32 0x00000000#32 : F .f32)

variable {X Y : S32x208.Idx → Elt F .i32}

/-- One of the two tables for `X`'s words that serve the rows of parity `half`, after `n` trips. -/
def tab (h : Named X) (half : ℕ) : ℕ → S1008.Idx → Elt F .f32
  | 0 => cleared
  | n + 1 => tabEnd h one16 (offs (2 * n + half)) (tab h half n)

/-- The table for `X`'s words as row `r` has raised it. -/
def tabR (h : Named X) (r : ℕ) : S1008.Idx → Elt F .f32 := tabUp h one16 (offs r) (tab h (r % 2) (r / 2))

/-- The table entry an entry's word names. -/
def cell (h : Named X) (j : S32x208.Idx) : S1008.Idx := fun a => ⟨(X j : BitVec 32).toNat, by rw [Fin.eq_zero a]; exact h j⟩

/-- The count row of `X`'s words, entry by entry: `X`'s table and `Y`'s at the entry's word. -/
def cnt (h : Named X) (h' : Named Y) (j : S32x208.Idx) : Elt F .f32 :=
  (addf (tabR h (j 0).val : FVec F S1008 .f32) (tabR h' (j 0).val : FVec F S1008 .f32) : FVec F S1008 .f32) (cell h j)

theorem both_apply (h : Named X) (P R : S1008.Idx → Elt F .f32) (j : S32x208.Idx) :
    both P R (grp h (offAt (j 0).val (cg j))) (ln j) = (addf (P : FVec F S1008 .f32) (R : FVec F S1008 .f32) : FVec F S1008 .f32) (cell h j) := by
  have e : idxAt ![(grp h (offAt (j 0).val (cg j))).1] (k0_idx1_inb _ (grp h (offAt (j 0).val (cg j))).2) (ln j) = cell h j := by
    funext a
    refine Fin.ext ?_
    rw [Fin.eq_zero a]
    show (wordsAt X (offAt (j 0).val (cg j)) (ln j) : BitVec 32).toNat = _
    rw [wordsAt_ln]; rfl
  show (addf (P : FVec F S1008 .f32) (R : FVec F S1008 .f32) : FVec F S1008 .f32) (idxAt ![(grp h (offAt (j 0).val (cg j))).1] _ (ln j)) = _
  rw [e]

/-- What the loop has written of a count row after the rows below `n`. -/
def Done (h : Named X) (h' : Named Y) (n : ℕ) (A : S32x208.Idx → Elt F .f32) : Prop := ∀ j, (j 0).val < n → A j = cnt h h' j

theorem done_step (h : Named X) (h' : Named Y) {n : ℕ} (hn : n < 32) {A : S32x208.Idx → Elt F .f32} (hA : Done h h' n A) :
    Done h h' (n + 1) (cntEnd h (offs n) (offs n) (tabR h n) (tabR h' n) A) := by
  intro j hj
  have e : (offs n).zip ((offs n).map (grp h)) = (List.finRange 13).map fun c => (offAt n c, grp h (offAt n c)) := by
    unfold offs; rw [List.map_map, List.zip_map']; rfl
  unfold cntEnd
  rw [e, gath_apply _ _ n (fun c => grp h (offAt n c)) j]
  by_cases hr : (j 0).val = n
  · rw [if_pos ⟨by omega, List.mem_finRange _⟩]
    subst hr
    rw [both_apply]; rfl
  · rw [if_neg (by rintro ⟨h1, -⟩; omega)]
    exact hA j (by omega)

theorem done_all (h : Named X) (h' : Named Y) {A : S32x208.Idx → Elt F .f32} (hA : Done h h' 32 A) : A = cnt h h' :=
  funext fun j => hA j (j 0).isLt

/-! ## Clearing a table -/

/-- The first `16 n` entries are cleared. -/
def Clear (n : ℕ) (P : S1008.Idx → Elt F .f32) : Prop := ∀ j, (j 0).val < 16 * n → P j = (cleared : S1008.Idx → Elt F .f32) j

/-- The group of a table cleared at step `t`. -/
abbrev rZ (t : Fin k0_t1_loop.trips) : Rect S1008 := Rect.unit (s := S1008) (k0_off2 t) S16.size (k0_off2_inb t)

theorem clear_step (t : Fin k0_t1_loop.trips) {P : S1008.Idx → Elt F .f32} (hP : Clear t.val P) :
    Clear (t.val + 1) ((rZ t).overlay P (zero16 : FVec F S16 .f32)) := by
  intro j hj
  by_cases hm : j ∈ (rZ t).set
  · rw [← Rect.map_emb_univ] at hm
    obtain ⟨x, -, rfl⟩ := Finset.mem_map.mp hm
    rw [Rect.overlay_emb]; rfl
  · rw [Rect.overlay_of_not_mem _ _ _ hm]
    refine hP j ?_
    by_contra hlt
    refine hm ?_
    rw [← Rect.map_emb_univ]
    refine Finset.mem_map.mpr ⟨Shape.ofLane (d := ![16]) ⟨(j 0).val - 16 * t.val, by show _ < 16; omega⟩, Finset.mem_univ _, ?_⟩
    funext a
    refine Fin.ext ?_
    rw [Fin.eq_zero a]
    show (k0_off2 t) 0 + 1 * ((j 0).val - 16 * t.val) = _
    rw [k0_off2_eq]; show 16 * t.val + _ = _; omega

theorem clear_all {P : S1008.Idx → Elt F .f32} (hP : Clear 63 P) : P = cleared :=
  funext fun j => hP j (j 0).isLt

end Cert.KernelIdeal.Run
-- ==== Proof.Tile.lean ====
/-
  One tile's run: it fetches its 32 rows of the two id arrays, clears its four tables, counts, and writes its 32 rows of the two
  count arrays.
-/
module

public import proofs.«01_k».proof.Proof.TripVal

@[expose] public section

noncomputable section

namespace Cert.KernelIdeal.Run

open Cert.KernelIdeal Cert.KernelIdeal.Gen
open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The arrays and a tile's blocks of them -/

/-- The padded id arrays and the two count arrays, as locations of device `d`. -/
abbrev sLoc (d : Dev nD) : Loc nD τ sig := (SparseCore.T d).loc main_v4
abbrev dLoc (d : Dev nD) : Loc nD τ sig := (SparseCore.T d).loc main_v5
abbrev fLoc (d : Dev nD) : Loc nD τ sig := (SparseCore.T d).loc main_v6_0
abbrev gLoc (d : Dev nD) : Loc nD τ sig := (SparseCore.T d).loc main_v6_1

abbrev sV : Memref sig .scVector .hbm S1024x208 .i32 := Memref.whole main_v4_scv
abbrev dV : Memref sig .scVector .hbm S1024x208 .i32 := Memref.whole main_v5_scv
abbrev fV : Memref sig .scVector .hbm S1024x208 .f32 := Memref.whole main_v6_0_scv
abbrev gV : Memref sig .scVector .hbm S1024x208 .f32 := Memref.whole main_v6_1_scv
/-- The tile's scratch: the fetched ids, the four tables, the two count rows. -/
abbrev bS : Memref sig .scVector .vmem S32x208 .i32 := Memref.whole cc0_scratch0
abbrev bD : Memref sig .scVector .vmem S32x208 .i32 := Memref.whole cc0_scratch1
abbrev bT0 : Memref sig .scVector .vmem S1008 .f32 := Memref.whole cc0_scratch2
abbrev bU0 : Memref sig .scVector .vmem S1008 .f32 := Memref.whole cc0_scratch3
abbrev bT1 : Memref sig .scVector .vmem S1008 .f32 := Memref.whole cc0_scratch4
abbrev bU1 : Memref sig .scVector .vmem S1008 .f32 := Memref.whole cc0_scratch5
abbrev bF : Memref sig .scVector .vmem S32x208 .f32 := Memref.whole cc0_scratch6
abbrev bG : Memref sig .scVector .vmem S32x208 .f32 := Memref.whole cc0_scratch7

/-- The tile's rows of an array. -/
abbrev blk (i : grid0.Coords) : Rect S1024x208 := Rect.unit (s := S1024x208) (k0_off1 i) S32x208.size (k0_off1_inb i)
/-- Which block of 32 rows the tile's is. -/
def bOf (i : grid0.Coords) : ℕ := 2 * (i 1).val + (i 0).val

/-- Entry `k` of the block `b`, as an entry of the array. -/
def rowIdx (b : ℕ) (k : S32x208.Idx) : S1024x208.Idx :=
  fun | 0 => ⟨(32 * b + (k 0).val) % 1024, Nat.mod_lt _ (by decide)⟩ | 1 => k 1

/-- Block `b` of an array. -/
def rowsB {α : Type} (b : ℕ) (X : S1024x208.Idx → α) : S32x208.Idx → α := fun k => X (rowIdx b k)

theorem blk_emb (i : grid0.Coords) (k : S32x208.Idx) : (blk i).emb k = rowIdx (bOf i) k := by
  have h0 : (i 0).val < 2 := (i 0).isLt
  have h1 : (i 1).val < 16 := (i 1).isLt
  have hk : (k 0).val < 32 := (k 0).isLt
  refine Shape.idx_ext₂ ?_ ?_
  · show (k0_off1 i) 0 + 1 * (k 0).val = (32 * (2 * (i 1).val + (i 0).val) + (k 0).val) % 1024
    rw [k0_off1_eq]; show 64 * (i 1).val + 32 * (i 0).val + _ = _; omega
  · show (k0_off1 i) 1 + 1 * (k 1).val = (k 1).val
    rw [k0_off1_eq]; show 0 + _ = _; omega

/-- Every word of the array names a table entry. -/
def NamedA (X : S1024x208.Idx → Elt F .i32) : Prop := ∀ j, (X j : BitVec 32).toNat < 1008

omit [FloatOps F] in
theorem NamedA.rows {X : S1024x208.Idx → Elt F .i32} (h : NamedA X) (b : ℕ) : Named (rowsB b X) := fun _ => h _

/-- The entry's place in its block. -/
def inB (j : S1024x208.Idx) : S32x208.Idx := fun | 0 => ⟨(j 0).val % 32, Nat.mod_lt _ (by decide)⟩ | 1 => j 1

/-- A count array: each entry is its block's count at its place. -/
def cntA {X Y : S1024x208.Idx → Elt F .i32} (h : NamedA X) (h' : NamedA Y) : S1024x208.Idx → Elt F .f32 :=
  fun j => cnt (h.rows ((j 0).val / 32)) (h'.rows ((j 0).val / 32)) (inB j)

theorem cntA_blk {X Y : S1024x208.Idx → Elt F .i32} (h : NamedA X) (h' : NamedA Y) (i : grid0.Coords) (k : S32x208.Idx) :
    cntA h h' ((blk i).emb k) = cnt (h.rows (bOf i)) (h'.rows (bOf i)) k := by
  have hk : (k 0).val < 32 := (k 0).isLt
  have h0 : (i 0).val < 2 := (i 0).isLt
  have h1 : (i 1).val < 16 := (i 1).isLt
  have e1 : (rowIdx (bOf i) k 0).val / 32 = bOf i := by
    show (32 * bOf i + (k 0).val) % 1024 / 32 = bOf i
    unfold bOf; omega
  have e2 : inB (rowIdx (bOf i) k) = k := by
    refine Shape.idx_ext₂ ?_ rfl
    show (32 * bOf i + (k 0).val) % 1024 % 32 = (k 0).val
    omega
  rw [blk_emb]
  unfold cntA
  rw [e2]
  simp only [e1]

/-! ## The tile's resources -/

section Res

variable (d : Dev nD) (i : grid0.Coords)

abbrev semS : GSem nD τ sig := (thr d i, .dma cc0_scoped0.sem)
abbrev semD : GSem nD τ sig := (thr d i, .dma cc0_scoped1.sem)
abbrev semF : GSem nD τ sig := (thr d i, .dma cc0_scoped2.sem)
abbrev semG : GSem nD τ sig := (thr d i, .dma cc0_scoped3.sem)

/-- The tile's semaphores and scratch buffers, as sets. -/
abbrev mySems : Finset (SemLoc sig) := {.dma cc0_scoped0.sem, .dma cc0_scoped1.sem, .dma cc0_scoped2.sem, .dma cc0_scoped3.sem}
abbrev myRefs : Finset (Ref sig .scVector) :=
  {cc0_scratch0, cc0_scratch1, cc0_scratch2, cc0_scratch3, cc0_scratch4, cc0_scratch5, cc0_scratch6, cc0_scratch7}

abbrev restSems : sProp 𝕄 :=
  bigSep (ownCells (thr d i) \ mySems.map ⟨fun s => ((thr d i, s) : GSem nD τ sig), fun _ _ e => (Prod.mk.inj e).2⟩) fun g => semVal g 0
abbrev restBufs : sProp 𝕄 :=
  bigSep (ownRefs (τ := τ) (.scVector (cV i) (jV i)) \ myRefs.map ⟨(Proc.scVector (cV i) (jV i)).devRef, Proc.devRef_injective _⟩)
    fun b => iprop(∃ f, ((d, b) : Loc nD τ sig) ↦{fullShare} f)

omit [FloatOps F] in
theorem ownSems0_V :
    (ownSems0 (thr d i) : sProp 𝕄)
      = iprop((semVal (semS d i) 0 ∗ semVal (semD d i) 0 ∗ semVal (semF d i) 0 ∗ semVal (semG d i) 0) ∗ restSems d i) := by
  unfold SparseCore.Cfg.ownSems0
  have hsub : mySems.map ⟨fun s => ((thr d i, s) : GSem nD τ sig), fun _ _ e => (Prod.mk.inj e).2⟩ ⊆ ownCells (thr d i) := by
    intro g hg
    obtain ⟨s, hs, rfl⟩ := Finset.mem_map.mp hg
    refine mem_ownCells.mpr ⟨rfl, ?_⟩
    have : ∀ s ∈ mySems, s.isScoped .scVector = true := by decide
    exact this s hs
  rw [← Finset.union_sdiff_of_subset hsub, SparseCore.bigSep_union' Finset.disjoint_sdiff, bigSep_map]
  rw [SparseCore.bigSep_insert' (by decide), SparseCore.bigSep_insert' (by decide), SparseCore.bigSep_insert' (by decide), bigSep_singleton]
  rfl

omit [FloatOps F] in
theorem bigSep_myRefs (φ : Ref sig .scVector → sProp 𝕄) :
    bigSep myRefs φ = iprop(φ cc0_scratch0 ∗ φ cc0_scratch1 ∗ φ cc0_scratch2 ∗ φ cc0_scratch3 ∗ φ cc0_scratch4
      ∗ φ cc0_scratch5 ∗ φ cc0_scratch6 ∗ φ cc0_scratch7) := by
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem ownBufs_V :
    (ownBufs (thr d i) : sProp 𝕄)
      = iprop(((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ (∃ f, (thr d i).loc cc0_scratch4 ↦{fullShare} f) ∗ (∃ f, (thr d i).loc cc0_scratch5 ↦{fullShare} f)
          ∗ (∃ f, (thr d i).loc cc0_scratch6 ↦{fullShare} f) ∗ (∃ f, (thr d i).loc cc0_scratch7 ↦{fullShare} f)) ∗ restBufs d i) := by
  unfold SparseCore.Cfg.ownBufs
  have hsub : myRefs.map ⟨(Proc.scVector (cV i) (jV i)).devRef, Proc.devRef_injective _⟩ ⊆ ownRefs (τ := τ) (.scVector (cV i) (jV i)) := by
    intro b hb
    obtain ⟨r, hr, rfl⟩ := Finset.mem_map.mp hb
    refine SparseCore.Cfg.mem_ownRefs_of_owner ?_
    fin_cases hr <;> rfl
  show bigSep (ownRefs (τ := τ) (.scVector (cV i) (jV i))) _ = _
  rw [← Finset.union_sdiff_of_subset hsub, SparseCore.bigSep_union' Finset.disjoint_sdiff, bigSep_map]
  exact congrArg₂ _ (bigSep_myRefs _) rfl

end Res

/-! ## The tile's run -/

section Body

variable (d : Dev nD) (i : grid0.Coords)

/-- The tile's blocks of the four arrays, as it slices them. -/
abbrev sBlk : Memref sig .scVector .hbm S32x208 .i32 := sV.slice (blk i) (fun _ => rfl)
abbrev dBlk : Memref sig .scVector .hbm S32x208 .i32 := dV.slice (blk i) (fun _ => rfl)
abbrev fBlk : Memref sig .scVector .hbm S32x208 .f32 := fV.slice (blk i) (fun _ => rfl)
abbrev gBlk : Memref sig .scVector .hbm S32x208 .f32 := gV.slice (blk i) (fun _ => rfl)

omit [FloatOps F] in
theorem pts_sBlk (f : Buf (Elt F) (sLoc d)) :
    ((sBlk i).view.loc (thr d i) ↦[(sBlk i).view.set]{fullShare} f : sProp 𝕄) = sLoc d ↦[(blk i).set]{fullShare} f := by
  rw [show (sBlk i).view.set = (blk i).set from View.set_slice_whole _ _]
omit [FloatOps F] in
theorem pts_dBlk (f : Buf (Elt F) (dLoc d)) :
    ((dBlk i).view.loc (thr d i) ↦[(dBlk i).view.set]{fullShare} f : sProp 𝕄) = dLoc d ↦[(blk i).set]{fullShare} f := by
  rw [show (dBlk i).view.set = (blk i).set from View.set_slice_whole _ _]
omit [FloatOps F] in
theorem pts_fBlk (f : Buf (Elt F) (fLoc d)) :
    ((fBlk i).view.loc (thr d i) ↦[(fBlk i).view.set]{fullShare} f : sProp 𝕄) = fLoc d ↦[(blk i).set]{fullShare} f := by
  rw [show (fBlk i).view.set = (blk i).set from View.set_slice_whole _ _]
omit [FloatOps F] in
theorem pts_gBlk (f : Buf (Elt F) (gLoc d)) :
    ((gBlk i).view.loc (thr d i) ↦[(gBlk i).view.set]{fullShare} f : sProp 𝕄) = gLoc d ↦[(blk i).set]{fullShare} f := by
  rw [show (gBlk i).view.set = (blk i).set from View.set_slice_whole _ _]

omit [FloatOps F] in
/-- What the fetch reads of an id array: the tile's block. -/
theorem read_sBlk (f : Buf (Elt F) (sLoc d)) : (sBlk i).view.read (Elt F) f = rowsB (bOf i) f :=
  funext fun k => congrArg f (blk_emb i k)
omit [FloatOps F] in
theorem read_dBlk (f : Buf (Elt F) (dLoc d)) : (dBlk i).view.read (Elt F) f = rowsB (bOf i) f :=
  funext fun k => congrArg f (blk_emb i k)

variable (X Y : S1024x208.Idx → Elt F .i32) (hX : NamedA X) (hY : NamedA Y)

/-- What the tile holds of the arrays when it starts: its id rows, and its rows of the count arrays at whatever they hold. -/
abbrev goRes (i : grid0.Coords) (f : Buf (Elt F) (fLoc d)) (g : Buf (Elt F) (gLoc d)) : sProp 𝕄 :=
  iprop((sLoc d ↦[(blk i).set]{fullShare} X) ∗ (dLoc d ↦[(blk i).set]{fullShare} Y) ∗ (fLoc d ↦[(blk i).set]{fullShare} f) ∗ gLoc d ↦[(blk i).set]{fullShare} g)
/-- What it hands back: its id rows, and its rows of the two count arrays at the counts. -/
abbrev tdRes (i : grid0.Coords) : sProp 𝕄 :=
  goRes d X Y i (cntA hX hY) (cntA hY hX)

/-- The invariant of the clearing loop. -/
def invZ (n : ℕ) (_ : PUnit) : sProp 𝕄 :=
  iprop(∃ P₀ R₀ P₁ R₁ : S1008.Idx → Elt F .f32, ⌜Clear n P₀ ∧ Clear n R₀ ∧ Clear n P₁ ∧ Clear n R₁⌝
    ∗ own d i bT0 P₀ ∗ own d i bU0 R₀ ∗ own d i bT1 P₁ ∗ own d i bU1 R₁)

/-- The invariant of the counting loop. -/
def invC (n : ℕ) (_ : PUnit) : sProp 𝕄 :=
  iprop(own d i bS (rowsB (bOf i) X) ∗ own d i bD (rowsB (bOf i) Y)
    ∗ own d i bT0 (tab (hX.rows (bOf i)) 0 n) ∗ own d i bU0 (tab (hY.rows (bOf i)) 0 n)
    ∗ own d i bT1 (tab (hX.rows (bOf i)) 1 n) ∗ own d i bU1 (tab (hY.rows (bOf i)) 1 n)
    ∗ ∃ A B : S32x208.Idx → Elt F .f32, ⌜Done (hX.rows (bOf i)) (hY.rows (bOf i)) (2 * n) A ∧ Done (hY.rows (bOf i)) (hX.rows (bOf i)) (2 * n) B⌝
      ∗ own d i bF A ∗ own d i bG B)

/-- One step of the clearing loop on one table. -/
theorem wp_clear (m : Memref sig .scVector .vmem S1008 .f32) (t : Fin k0_t1_loop.trips) {P : S1008.Idx → Elt F .f32} (hP : Clear t.val P)
    {α : Type} {k : PUnit → TileProg F i α} {Q : α → sProp 𝕄} :
    own d i m P ⊢ iprop((∀ P' : S1008.Idx → Elt F .f32, ⌜Clear (t.val + 1) P'⌝ -∗ own d i m P' -∗ runs d i (k ⟨⟩) Q)
      -∗ runs d i (.op (.load m (rZ t).toLoadRect (View.loadsAt_vmem h_S16)) fun _ =>
          .op (.store m (rZ t) (zero16 : FVec F S16 .f32) Finset.univ (View.stores_vmem_bits_univ h_S16 rfl) (.inl rfl)) k) Q) := by
  iintro H Hk
  iapply (wp_own_load d i m (r := rZ t) P) $$ H
  iintro H
  iapply (wp_own_store d i m (r := rZ t) P) $$ H
  iintro H
  iapply Hk $$ %_ %(clear_step t hP) H

/-- One trip of the counting loop. -/
theorem wp_trip (t : Fin k0_t2_loop.trips) (r0 r1 r2 r3) {Q : PUnit → sProp 𝕄} :
    invC d i X Y hX hY t.val ⟨⟩ ⊢ iprop((invC d i X Y hX hY (t.val + 1) ⟨⟩ -∗ runs d i (.ret ⟨⟩) Q)
      -∗ runs d i (k0_part16 i sV (Memref.isWhole_whole _) dV (Memref.isWhole_whole _) fV (Memref.isWhole_whole _) gV (Memref.isWhole_whole _)
        bS (Memref.isWhole_whole _) bD (Memref.isWhole_whole _) bT0 (Memref.isWhole_whole _) bU0 (Memref.isWhole_whole _)
        bT1 (Memref.isWhole_whole _) bU1 (Memref.isWhole_whole _) bF (Memref.isWhole_whole _) bG (Memref.isWhole_whole _)
        r0 r1 r2 r3 (one16 : FVec F S16 .f32) 0#32 1#32 t) Q) := by
  have ht : t.val < 16 := t.isLt
  have e0 : (2 * t.val) % 2 = 0 := by omega
  have e1 : (2 * t.val + 1) % 2 = 1 := by omega
  have f0 : (2 * t.val) / 2 = t.val := by omega
  have f1 : (2 * t.val + 1) / 2 = t.val := by omega
  rw [trip_eq, ld0_eq, st0_eq, st0_eq]
  unfold invC
  iintro ⟨HS, HD, HT0, HU0, HT1, HU1, %A, %B, %hAB, HF, HG⟩ Hk
  obtain ⟨hA, hB⟩ := hAB
  have hA1 := done_step _ _ (by omega) hA
  have hB1 := done_step _ _ (by omega) hB
  have hA2 := done_step _ _ (by omega) hA1
  have hB2 := done_step _ _ (by omega) hB1
  iapply (wp_rowK d i bS bD bT0 bU0 bF bG one16 _ _ (hX.rows (bOf i)) (hY.rows (bOf i)) _ _ A B _) $$ [HS HD HT0 HU0 HF HG]
  · isplitl [HS]; · iexact HS
    isplitl [HD]; · iexact HD
    isplitl [HT0]; · iexact HT0
    isplitl [HU0]; · iexact HU0
    isplitl [HF]; · iexact HF
    iexact HG
  iintro ⟨HS, HD, HT0, HU0, HF, HG⟩
  iapply (wp_rowK d i bS bD bT1 bU1 bF bG one16 _ _ (hX.rows (bOf i)) (hY.rows (bOf i)) _ _ _ _ _) $$ [HS HD HT1 HU1 HF HG]
  · isplitl [HS]; · iexact HS
    isplitl [HD]; · iexact HD
    isplitl [HT1]; · iexact HT1
    isplitl [HU1]; · iexact HU1
    isplitl [HF]; · iexact HF
    iexact HG
  iintro ⟨HS, HD, HT1, HU1, HF, HG⟩
  iapply Hk
  isplitl [HS]; · iexact HS
  isplitl [HD]; · iexact HD
  isplitl [HT0]; · iexact HT0
  isplitl [HU0]; · iexact HU0
  isplitl [HT1]; · iexact HT1
  isplitl [HU1]; · iexact HU1
  iexists _, _
  isplitr
  rotate_left
  · isplitl [HF]; · iexact HF
    iexact HG
  · ipureintro
    unfold tabR at hA2 hB2
    rw [e0, f0, e1, f1] at hA2 hB2
    exact ⟨hA2, hB2⟩

end Body

end Cert.KernelIdeal.Run
-- ==== Proof.TileRun.lean ====
/-
  A tile's whole run: the two fetches, the clearing loop, the counting loop, the two write-outs.
-/
module

public import proofs.«01_k».proof.Proof.Tile

@[expose] public section

noncomputable section

namespace Cert.KernelIdeal.Run

open Cert.KernelIdeal Cert.KernelIdeal.Gen
open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)
variable (X Y : S1024x208.Idx → Elt F .i32) (hX : NamedA X) (hY : NamedA Y)

omit [FloatOps F] in
/-- A scratch buffer whole, as the tile addresses it. -/
theorem pts_buf (b : Ref sig .scVector) (f : Buf (Elt F) ((thr d i).loc b)) :
    ((Memref.whole b).view.loc (thr d i) ↦{fullShare} f : sProp 𝕄) = (thr d i).loc b ↦{fullShare} f := rfl

omit [FloatOps F] in
/-- A scratch buffer written whole by a fetch holds what the fetch read. -/
theorem own_fetched (b : Ref sig .scVector) (f : Buf (Elt F) ((thr d i).loc b)) {R R' : Buf (Elt F) ((thr d i).loc b)} (h : R = R') :
    ((Memref.whole b).view.loc (thr d i) ↦{fullShare} (Memref.whole b).view.write (Elt F) f R Finset.univ : sProp 𝕄)
      = owns (thr d i) (Memref.whole b) fullShare R' := by
  subst h
  rw [owns_whole]
  exact congrArg (fun x => ((thr d i).loc b ↦{fullShare} x : sProp 𝕄)) (View.write_whole_univ _ _ _)

/-- One step of the clearing loop. -/
theorem region_clear (t : Fin k0_t1_loop.trips) :
    (invZ d i t.val ⟨⟩ : sProp 𝕄) ⊢ wp frame (wpE (defs₀ (F := F)) 𝒱₀ (thr d i) none) Set.univ
        (k0_t1_body i sV (Memref.isWhole_whole _) dV (Memref.isWhole_whole _) fV (Memref.isWhole_whole _) gV (Memref.isWhole_whole _)
            bS (Memref.isWhole_whole _) bD (Memref.isWhole_whole _) bT0 (Memref.isWhole_whole _) bU0 (Memref.isWhole_whole _)
            bT1 (Memref.isWhole_whole _) bU1 (Memref.isWhole_whole _) bF (Memref.isWhole_whole _) bG (Memref.isWhole_whole _)
            cc0_scoped0 cc0_scoped1 cc0_scoped2 cc0_scoped3 t ⟨⟩) (invZ d i (t.val + 1)) := by
  unfold invZ k0_t1_body
  simp only [Prog.lift, Prog.bind_op, Prog.bind_ret, Prog.pure_eq_ret]
  iintro ⟨%P₀, %R₀, %P₁, %R₁, %hc, H0, H1, H2, H3⟩
  obtain ⟨c0, c1, c2, c3⟩ := hc
  iapply (wp_clear d i bT0 t c0) $$ H0
  iintro %P₀' %c0' H0
  iapply (wp_clear d i bU0 t c1) $$ H1
  iintro %R₀' %c1' H1
  iapply (wp_clear d i bT1 t c2) $$ H2
  iintro %P₁' %c2' H2
  iapply (wp_clear d i bU1 t c3) $$ H3
  iintro %R₁' %c3' H3
  unfold runs
  sl_step
  iexists P₀', R₀', P₁', R₁'
  isplitr
  · ipureintro; exact ⟨c0', c1', c2', c3'⟩
  isplitl [H0]; · iexact H0
  isplitl [H1]; · iexact H1
  isplitl [H2]; · iexact H2
  iexact H3

/-- One step of the counting loop. -/
theorem region_count (t : Fin k0_t2_loop.trips) :
    (invC d i X Y hX hY t.val ⟨⟩ : sProp 𝕄) ⊢ wp frame (wpE (defs₀ (F := F)) 𝒱₀ (thr d i) none) Set.univ
        (k0_t2_body i sV (Memref.isWhole_whole _) dV (Memref.isWhole_whole _) fV (Memref.isWhole_whole _) gV (Memref.isWhole_whole _)
            bS (Memref.isWhole_whole _) bD (Memref.isWhole_whole _) bT0 (Memref.isWhole_whole _) bU0 (Memref.isWhole_whole _)
            bT1 (Memref.isWhole_whole _) bU1 (Memref.isWhole_whole _) bF (Memref.isWhole_whole _) bG (Memref.isWhole_whole _)
            cc0_scoped0 cc0_scoped1 cc0_scoped2 cc0_scoped3 t ⟨⟩) (invC d i X Y hX hY (t.val + 1)) := by
  unfold k0_t2_body
  simp only [Prog.lift, Prog.bind_op, Prog.bind_ret, Prog.pure_eq_ret]
  rw [wp_bind]
  iintro HI
  iapply (wp_trip d i X Y hX hY t _ _ _ _) $$ HI
  iintro HI
  unfold runs
  sl_step
  sl_step
  iexact HI

omit [FloatOps F] in
/-- The block a write-out lands holds the block's entries of `G`. -/
theorem landed_f (f : Buf (Elt F) (fLoc d)) (R : S32x208.Idx → Elt F .f32) (G : Buf (Elt F) (fLoc d)) (h : ∀ k, G ((blk i).emb k) = R k) :
    ((fBlk i).view.loc (thr d i) ↦[(fBlk i).view.set]{fullShare} (fBlk i).view.writes (Elt F) f [⟨Rect.whole S32x208, R⟩] : sProp 𝕄)
      = fLoc d ↦[(blk i).set]{fullShare} G := by
  rw [pts_fBlk]
  refine pointsTo_congr fun j hj => ?_
  obtain ⟨(k : S32x208.Idx), rfl⟩ := (blk i).exists_idx_of_mem hj
  refine Eq.trans ?_ (h k).symm
  have e := View.read_writes_cons_emb (fBlk i).view f (Rect.whole S32x208) R [] k
  rw [show (Rect.whole S32x208).emb k = k from Rect.emb_whole_apply S32x208 k] at e
  exact e

omit [FloatOps F] in
/-- The block a write-out lands holds the block's entries of `G`. -/
theorem landed_g (f : Buf (Elt F) (gLoc d)) (R : S32x208.Idx → Elt F .f32) (G : Buf (Elt F) (gLoc d)) (h : ∀ k, G ((blk i).emb k) = R k) :
    ((gBlk i).view.loc (thr d i) ↦[(gBlk i).view.set]{fullShare} (gBlk i).view.writes (Elt F) f [⟨Rect.whole S32x208, R⟩] : sProp 𝕄)
      = gLoc d ↦[(blk i).set]{fullShare} G := by
  rw [pts_gBlk]
  refine pointsTo_congr fun j hj => ?_
  obtain ⟨(k : S32x208.Idx), rfl⟩ := (blk i).exists_idx_of_mem hj
  refine Eq.trans ?_ (h k).symm
  have e := View.read_writes_cons_emb (gBlk i).view f (Rect.whole S32x208) R [] k
  rw [show (Rect.whole S32x208).emb k = k from Rect.emb_whole_apply S32x208 k] at e
  exact e

set_option maxRecDepth 16384 in
/-- The run of the tile at grid point `i`. -/
theorem tile_body (hF : (K (F := F)).Facts) (f : Buf (Elt F) (fLoc d)) (g : Buf (Elt F) (gLoc d))
    (O : CellTallies nD τ sig (HIx 1)) (W : Waits sig (HIx 1)) (hO : ∀ g, O g none = 0) :
    iprop(levAts (K (F := F)).L (K (F := F)).lev ∗ emp ∗ goRes d X Y i f g
        ∗ scopedBufs (thr d i) ∗ scopedSems0 (thr d i) ∗ owes (thr d i) O W)
      ⊢ wp frame (wpE (defs₀ (F := F)) 𝒱₀ (thr d i) none) Set.univ
          (cc0__sc_fsum_kernel i sV (Memref.isWhole_whole _) dV (Memref.isWhole_whole _) fV (Memref.isWhole_whole _) gV (Memref.isWhole_whole _)
            bS (Memref.isWhole_whole _) bD (Memref.isWhole_whole _) bT0 (Memref.isWhole_whole _) bU0 (Memref.isWhole_whole _)
            bT1 (Memref.isWhole_whole _) bU1 (Memref.isWhole_whole _) bF (Memref.isWhole_whole _) bG (Memref.isWhole_whole _)
            cc0_scoped0 cc0_scoped1 cc0_scoped2 cc0_scoped3)
          fun _ => iprop(tdRes d X Y hX hY i ∗ scopedBufs (thr d i) ∗ scopedSems0 (thr d i)
            ∗ ∃ W', ⌜∀ p ∈ W', p ∈ W ∨ p.2 = none⌝ ∗ owes (thr d i) O W') := by
  simp only [cc0__sc_fsum_kernel_eq_skeleton]; unfold cc0__sc_fsum_kernel_skel
  simp only [k0_part17_eq_skeleton]; unfold k0_part17_skel
  simp only [Prog.lift, Prog.bind_op, Prog.bind_ret, Prog.pure_eq_ret, Prog.bind_assoc]
  rw [(K (F := F)).scopedBufs_V hF d (cV i) (jV i), SparseCore.Cfg.scopedSems0_V (Val := Elt F) d (cV i) (jV i), ownSems0_V, ownBufs_V]
  iintro ⟨#Hlv, -, ⟨Hs, Hd, Hf, Hg⟩,
    ⟨⟨⟨%b0, Hb0⟩, ⟨%b1, Hb1⟩, ⟨%b2, Hb2⟩, ⟨%b3, Hb3⟩, ⟨%b4, Hb4⟩, ⟨%b5, Hb5⟩, ⟨%b6, Hb6⟩, ⟨%b7, Hb7⟩⟩, Hbufs⟩,
    ⟨⟨Hq0, Hq1, Hq2, Hq3⟩, Hsems⟩, HO⟩
  ihave Hmw := ((K (F := F)).mayWaits_none (thr := thr d i) hO) $$ Hlv
  ihave Hs := (Entails.of_eq (pts_sBlk d i _).symm) $$ Hs
  ihave Hd := (Entails.of_eq (pts_dBlk d i _).symm) $$ Hd
  ihave Hf := (Entails.of_eq (pts_fBlk d i _).symm) $$ Hf
  ihave Hg := (Entails.of_eq (pts_gBlk d i _).symm) $$ Hg
  ihave Hb0 := (Entails.of_eq (pts_buf d i cc0_scratch0 _).symm) $$ Hb0
  ihave Hb1 := (Entails.of_eq (pts_buf d i cc0_scratch1 _).symm) $$ Hb1
  sl_exec
  -- the clearing loop
  sl_for (invZ d i) $$ [Hb2 Hb3 Hb4 Hb5]
  case region =>
    intro t ⟨⟩
    exact region_clear d i t
  · unfold invZ
    iexists b2, b3, b4, b5
    isplitr
    · ipureintro; exact ⟨(fun _ h => absurd h (Nat.not_lt_zero _)), (fun _ h => absurd h (Nat.not_lt_zero _)), (fun _ h => absurd h (Nat.not_lt_zero _)), (fun _ h => absurd h (Nat.not_lt_zero _))⟩
    isplitl [Hb2]; · iapply (Entails.of_eq (owns_whole _ _ _ _).symm); iexact Hb2
    isplitl [Hb3]; · iapply (Entails.of_eq (owns_whole _ _ _ _).symm); iexact Hb3
    isplitl [Hb4]; · iapply (Entails.of_eq (owns_whole _ _ _ _).symm); iexact Hb4
    iapply (Entails.of_eq (owns_whole _ _ _ _).symm); iexact Hb5
  iintro %_ HI
  unfold invZ
  icases HI with ⟨%P₀, %R₀, %P₁, %R₁, %hc, H0, H1, H2, H3⟩
  obtain ⟨c0, c1, c2, c3⟩ := hc
  obtain rfl := clear_all c0
  obtain rfl := clear_all c1
  obtain rfl := clear_all c2
  obtain rfl := clear_all c3
  -- the counting loop
  sl_for (invC d i X Y hX hY) $$ [Hb0 Hb1 H0 H1 H2 H3 Hb6 Hb7]
  case region =>
    intro t ⟨⟩
    unfold tile_body.sl.prog.body_2
    exact region_count d i X Y hX hY t
  · unfold invC
    isplitl [Hb0]; · iapply (Entails.of_eq (own_fetched d i cc0_scratch0 b0 (read_sBlk d i X))); iexact Hb0
    isplitl [Hb1]; · iapply (Entails.of_eq (own_fetched d i cc0_scratch1 b1 (read_dBlk d i Y))); iexact Hb1
    isplitl [H0]; · iexact H0
    isplitl [H1]; · iexact H1
    isplitl [H2]; · iexact H2
    isplitl [H3]; · iexact H3
    iexists b6, b7
    isplitr
    · ipureintro; exact ⟨fun _ h => absurd h (Nat.not_lt_zero _), fun _ h => absurd h (Nat.not_lt_zero _)⟩
    isplitl [Hb6]; · iapply (Entails.of_eq (owns_whole _ _ _ _).symm); iexact Hb6
    iapply (Entails.of_eq (owns_whole _ _ _ _).symm); iexact Hb7
  iintro %_ HI
  unfold invC
  icases HI with ⟨HS, HD, H0, H1, H2, H3, %A, %B, %hAB, HA, HB⟩
  obtain ⟨hA, hB⟩ := hAB
  obtain rfl := done_all _ _ hA
  obtain rfl := done_all _ _ hB
  ihave HA := (Entails.of_eq (owns_whole (thr d i) cc0_scratch6 fullShare _)) $$ HA
  ihave HB := (Entails.of_eq (owns_whole (thr d i) cc0_scratch7 fullShare _)) $$ HB
  ihave HA := (Entails.of_eq (pts_buf d i cc0_scratch6 _).symm) $$ HA
  ihave HB := (Entails.of_eq (pts_buf d i cc0_scratch7 _).symm) $$ HB
  sl_exec
  sl_step
  isplitl [Hs Hd Hf Hg]
  · isplitl [Hs]; · iapply (Entails.of_eq (pts_sBlk d i X)); iexact Hs
    isplitl [Hd]; · iapply (Entails.of_eq (pts_dBlk d i Y)); iexact Hd
    isplitl [Hf]; · iapply (Entails.of_eq (landed_f d i f _ (cntA hX hY) (cntA_blk hX hY i))); iexact Hf
    iapply (Entails.of_eq (landed_g d i g _ (cntA hY hX) (cntA_blk hY hX i))); iexact Hg
  isplitl [HS HD H0 H1 H2 H3 HA HB Hbufs]
  · isplitr [Hbufs]
    rotate_left
    · iexact Hbufs
    isplitl [HS]; · iexists _; iapply (Entails.of_eq (owns_whole _ _ _ _)); iexact HS
    isplitl [HD]; · iexists _; iapply (Entails.of_eq (owns_whole _ _ _ _)); iexact HD
    isplitl [H0]; · iexists _; iapply (Entails.of_eq (owns_whole _ _ _ _)); iexact H0
    isplitl [H1]; · iexists _; iapply (Entails.of_eq (owns_whole _ _ _ _)); iexact H1
    isplitl [H2]; · iexists _; iapply (Entails.of_eq (owns_whole _ _ _ _)); iexact H2
    isplitl [H3]; · iexists _; iapply (Entails.of_eq (owns_whole _ _ _ _)); iexact H3
    isplitl [HA]; · iexists _; iexact HA
    iexists _; iexact HB
  isplitl [Hq0 Hq1 Hq2 Hq3 Hsems]
  · isplitr [Hsems]
    rotate_left
    · iexact Hsems
    isplitl [Hq0]; · iexact Hq0
    isplitl [Hq1]; · iexact Hq1
    isplitl [Hq2]; · iexact Hq2
    iexact Hq3
  iexists _
  isplitr
  rotate_left
  · iexact HO
  · ipureintro
    intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact .inl hp

end Cert.KernelIdeal.Run
-- ==== Proof.Call.lean ====
/-
  The SparseCore call: what it is handed and hands back, each tile's obligation, and the arrays' split into the tiles' blocks.
-/
module

public import proofs.«01_k».proof.Proof.TileRun

@[expose] public section

noncomputable section

namespace Cert.KernelIdeal.Run

open Cert.KernelIdeal Cert.KernelIdeal.Gen
open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same, of the launch's indices. -/
abbrev tileAt (c : Fin ((K (F := F)).nCore 0)) (s : Fin ((K (F := F)).nSub 0)) : grid0.Coords := coordsV c s

/-- What the call is run on, per device: the two padded id arrays, naming table entries, and what the count arrays hold before. -/
structure Ins (F : FTy → Type) where
  X : Dev nD → S1024x208.Idx → Elt F .i32
  Y : Dev nD → S1024x208.Idx → Elt F .i32
  hX : ∀ d, NamedA (X d)
  hY : ∀ d, NamedA (Y d)
  f : (d : Dev nD) → Buf (Elt F) (fLoc d)
  g : (d : Dev nD) → Buf (Elt F) (gLoc d)

variable (I : Ins F)

/-- What a tile is handed, and what it hands back. -/
abbrev goI (d : Dev nD) (i : grid0.Coords) : sProp 𝕄 := goRes d (I.X d) (I.Y d) i (I.f d) (I.g d)
abbrev tdI (d : Dev nD) (i : grid0.Coords) : sProp 𝕄 := tdRes d (I.X d) (I.Y d) (I.hX d) (I.hY d) i

/-- The call's payloads: a SparseCore is handed its sixteen tiles' blocks, and hands them back. -/
def P : (K (F := F)).Pay (nD := nD) (Val := Elt F) (Name := ℕ) (U := UU) where
  st := fun q d c => match q with | 0 => bigSep Finset.univ fun s => goI I d (tileAt (F := F) c s)
  dn := fun q d c => match q with | 0 => bigSep Finset.univ fun s => tdI I d (tileAt (F := F) c s)
  go := fun q d c s => match q with | 0 => goI I d (tileAt (F := F) c s)
  td := fun q d c s => match q with | 0 => tdI I d (tileAt (F := F) c s)
  x := fun _ _ => iprop(emp)

instance P_storable : (P I).IsStorable where
  st q d c := match q with
    | 0 => (inferInstance : BI.Storable (upEmb : UEmb _ 𝕄) (bigSep Finset.univ fun s => goI I d (tileAt (F := F) c s)))
  dn q d c := match q with
    | 0 => (inferInstance : BI.Storable (upEmb : UEmb _ 𝕄) (bigSep Finset.univ fun s => tdI I d (tileAt (F := F) c s)))
  go q d c s := match q with | 0 => (inferInstance : BI.Storable (upEmb : UEmb _ 𝕄) (goI I d (tileAt (F := F) c s)))
  td q d c s := match q with | 0 => (inferInstance : BI.Storable (upEmb : UEmb _ 𝕄) (tdI I d (tileAt (F := F) c s)))

theorem defs₀_vector (c : Fin τ.nSC) (s : Fin τ.nSub) :
    defs₀ (F := F) (.scVector c s) 0 ()
      = SparseCore.onTile hcore0 hsub0 (fun c s => cc0__sc_fsum_kernel (coordsV c s)
          sV (Memref.isWhole_whole _) dV (Memref.isWhole_whole _) fV (Memref.isWhole_whole _) gV (Memref.isWhole_whole _)
          bS (Memref.isWhole_whole _) bD (Memref.isWhole_whole _) bT0 (Memref.isWhole_whole _) bU0 (Memref.isWhole_whole _)
          bT1 (Memref.isWhole_whole _) bU1 (Memref.isWhole_whole _) bF (Memref.isWhole_whole _) bG (Memref.isWhole_whole _)
          cc0_scoped0 cc0_scoped1 cc0_scoped2 cc0_scoped3) ⟨⟩ c s := rfl

omit [FloatOps F] in
/-- A tile's waits are on its own semaphores: none is the handshake's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
/-- Each tile runs its part from what it is handed to what it hands back. -/
theorem tileObl (hF : (K (F := F)).Facts) : (K (F := F)).TileObl (D (F := F)) 𝒱 (P I) v₀ 0 := by
  intro d c i O W hO _ _
  simp only [show (P I).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (I.X d) (I.Y d) (I.hX d) (I.hY d) hF (I.f d) (I.g d) O W hO).trans
    (wp_mono frame _ _ fun _ => obl_post)

/-- A SparseCore hands its tiles what it was handed, and hands back what they hand back. -/
theorem vecSplit : (K (F := F)).VecSplit' (P I) 0 := by
  intro d c
  show (bigSep Finset.univ fun s => goI I d (tileAt (F := F) c s)) ⊢ |={Set.univ}=> iprop(
      (bigSep Finset.univ fun s => goI I d (tileAt (F := F) c s))
      ∗ ((bigSep Finset.univ fun s => tdI I d (tileAt (F := F) c s)) -∗ bigSep Finset.univ fun s => tdI I d (tileAt (F := F) c s)))
  iintro H; imodintro
  isplitl [H]; · iexact H
  iintro H; iexact H

/-! ## An array is the tiles' blocks of it -/

/-- The tiles' blocks, by SparseCore and subcore. -/
abbrev tileBlk (p : Fin 2 × Fin 16) : Finset S1024x208.Idx := (blk (coordsV p.1 p.2)).set

theorem mem_tileBlk (p : Fin 2 × Fin 16) (j : S1024x208.Idx) : j ∈ tileBlk p ↔ (j 0).val / 32 = 2 * p.2.val + p.1.val := by
  have e1 : ((coordsV p.1 p.2) 1).val = p.2.val := rfl
  have e0 : ((coordsV p.1 p.2) 0).val = p.1.val := rfl
  have h1 := p.1.isLt
  have h2 := p.2.isLt
  constructor
  · intro h
    obtain ⟨(k : S32x208.Idx), rfl⟩ := (blk _).exists_idx_of_mem h
    have hk : (k 0).val < 32 := (k 0).isLt
    rw [show (blk (coordsV p.1 p.2)).idx k = rowIdx (bOf (coordsV p.1 p.2)) k from blk_emb _ k]
    show (32 * bOf _ + (k 0).val) % 1024 / 32 = _
    unfold bOf; rw [e0, e1]; omega
  · intro h
    have e : (blk (coordsV p.1 p.2)).emb (inB j) = j := by
      rw [blk_emb]
      refine Shape.idx_ext₂ ?_ rfl
      have hj : (j 0).val < 1024 := (j 0).isLt
      show (32 * bOf _ + (j 0).val % 32) % 1024 = (j 0).val
      unfold bOf; rw [e0, e1]; omega
    rw [← e]
    exact (blk (coordsV p.1 p.2)).idx_mem (inB j)

theorem tileBlk_disjoint : ∀ p ∈ (Finset.univ : Finset (Fin 2 × Fin 16)), ∀ p' ∈ (Finset.univ : Finset (Fin 2 × Fin 16)), p ≠ p' →
    Disjoint (tileBlk p) (tileBlk p') := by
  intro p _ p' _ hne
  refine Finset.disjoint_left.mpr fun j h h' => hne ?_
  rw [mem_tileBlk] at h h'
  have h1 := p.1.isLt
  have h2 := p'.1.isLt
  exact Prod.ext (Fin.ext (by omega)) (Fin.ext (by omega))

theorem tileBlk_cover : (Finset.univ : Finset (Fin 2 × Fin 16)).biUnion tileBlk = Finset.univ := by
  refine Finset.eq_univ_of_forall fun j => Finset.mem_biUnion.mpr ?_
  have hj : (j 0).val < 1024 := (j 0).isLt
  refine ⟨(⟨(j 0).val / 32 % 2, by omega⟩, ⟨(j 0).val / 64, by omega⟩), Finset.mem_univ _, (mem_tileBlk _ _).mpr ?_⟩
  show _ = 2 * ((j 0).val / 64) + (j 0).val / 32 % 2
  omega

omit [FloatOps F] in
theorem s_blocks (d : Dev nD) (f : Buf (Elt F) (sLoc d)) :
    (sLoc d ↦{fullShare} f : sProp 𝕄) = bigSep Finset.univ fun p : Fin 2 × Fin 16 => sLoc d ↦[tileBlk p]{fullShare} f := by
  rw [← pointsTo_biUnion Finset.univ (ℓ := sLoc d) tileBlk tileBlk_disjoint, tileBlk_cover]; try rfl
omit [FloatOps F] in
theorem d_blocks (d : Dev nD) (f : Buf (Elt F) (dLoc d)) :
    (dLoc d ↦{fullShare} f : sProp 𝕄) = bigSep Finset.univ fun p : Fin 2 × Fin 16 => dLoc d ↦[tileBlk p]{fullShare} f := by
  rw [← pointsTo_biUnion Finset.univ (ℓ := dLoc d) tileBlk tileBlk_disjoint, tileBlk_cover]; try rfl
omit [FloatOps F] in
theorem f_blocks (d : Dev nD) (f : Buf (Elt F) (fLoc d)) :
    (fLoc d ↦{fullShare} f : sProp 𝕄) = bigSep Finset.univ fun p : Fin 2 × Fin 16 => fLoc d ↦[tileBlk p]{fullShare} f := by
  rw [← pointsTo_biUnion Finset.univ (ℓ := fLoc d) tileBlk tileBlk_disjoint, tileBlk_cover]; try rfl
omit [FloatOps F] in
theorem g_blocks (d : Dev nD) (f : Buf (Elt F) (gLoc d)) :
    (gLoc d ↦{fullShare} f : sProp 𝕄) = bigSep Finset.univ fun p : Fin 2 × Fin 16 => gLoc d ↦[tileBlk p]{fullShare} f := by
  rw [← pointsTo_biUnion Finset.univ (ℓ := gLoc d) tileBlk tileBlk_disjoint, tileBlk_cover]; try rfl

omit [FloatOps F] in
/-- The four arrays whole are the tiles' blocks of them. -/
theorem arrays_eq (d : Dev nD) (X Y : S1024x208.Idx → Elt F .i32) (f : Buf (Elt F) (fLoc d)) (g : Buf (Elt F) (gLoc d)) :
    (iprop((sLoc d ↦{fullShare} X) ∗ (dLoc d ↦{fullShare} Y) ∗ (fLoc d ↦{fullShare} f) ∗ gLoc d ↦{fullShare} g) : sProp 𝕄)
      = bigSep Finset.univ fun c : Fin ((K (F := F)).nCore 0) => bigSep Finset.univ fun s : Fin ((K (F := F)).nSub 0) =>
          goRes d X Y (tileAt (F := F) c s) f g := by
  rw [s_blocks, d_blocks, f_blocks, g_blocks, ← bigSep_sep', ← bigSep_sep', ← bigSep_sep']
  exact bigSep_univ_prod _

/-- What the call is handed: the four arrays whole. -/
theorem st_eq (d : Dev nD) :
    (bigSep Finset.univ fun c : Fin ((K (F := F)).nCore 0) => (P I).st 0 d c)
      = iprop((sLoc d ↦{fullShare} I.X d) ∗ (dLoc d ↦{fullShare} I.Y d) ∗ (fLoc d ↦{fullShare} I.f d) ∗ gLoc d ↦{fullShare} I.g d) :=
  (arrays_eq d _ _ _ _).symm

/-- What it hands back: the id arrays as they were, the count arrays at the counts. -/
theorem dn_eq (d : Dev nD) :
    (bigSep Finset.univ fun c : Fin ((K (F := F)).nCore 0) => (P I).dn 0 d c)
      = iprop((sLoc d ↦{fullShare} I.X d) ∗ (dLoc d ↦{fullShare} I.Y d) ∗ (fLoc d ↦{fullShare} cntA (I.hX d) (I.hY d))
          ∗ gLoc d ↦{fullShare} cntA (I.hY d) (I.hX d)) :=
  (arrays_eq d _ _ _ _).symm

end Cert.KernelIdeal.Run
-- ==== Proof.Expand.lean ====
/-
  The TensorCore kernel that spreads the counts over the output rows: one run of its body at a grid point. At the first
  point it builds, in its scratch buffer, a matrix of 200 · 64 rows whose entries come from the two weight matrices and the
  second bias; at every point it reads eight of its blocks of 64 rows and multiplies them by each of the two count tables.
  `built` names the matrix, `slab` the rows a point reads, and `wp_expand` states the run with the contents it leaves.
-/
module

public import proofs.«01_k».proof.Proof.Call
public import proofs.«01_k».proof.Proof.Gen.KernelIdeal.Launch
public import proofs.«01_k».proof.Proof.Gen.KernelIdeal.Points
public import Idealize.ShloMosaic.Lib.VecWindow

@[expose] public section

noncomputable section

namespace Cert.KernelIdeal.Run

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.SparseCore.Cfg (HIx)

variable {F : FTy → Type} [FloatOps F]

local notation "𝕄" => MT nD τ sig (HIx 1) (Elt F) ℕ UU ℕ

/-! ## What the body computes -/

/-- The matrix the first point builds, from the two weight matrices and the second bias. -/
abbrev built (W1 : S1x64.Idx → Elt F .f32) (W2 : S64x64.Idx → Elt F .f32) (b2 : S64.Idx → Elt F .f32) : S200x64x256.Idx → Elt F .f32 :=
  (k1_pay1 W1 W2 b2 : FVec F S200x64x256 .f32)

/-- The rows of it the point `i` reads. -/
def slab (i : grid1.Coords) (A : S200x64x256.Idx → Elt F .f32) : S8x64x256.Idx → Elt F .f32 :=
  fun x => A ((Rect.unit (s := S200x64x256) (k1_off1 i) S8x64x256.size (k1_off1_inb i)).emb x)

/-- The block of results a point writes: those rows times a count table. -/
abbrev prodA (i : grid1.Coords) (A : S200x64x256.Idx → Elt F .f32) (N : S256x1024.Idx → Elt F .f32) : S8x64x1024.Idx → Elt F .f32 :=
  (k1_pay3 (slab i A) N : FVec F S8x64x1024 .f32)
/-- The same product, as the second result's payload spells it. -/
abbrev prodB (i : grid1.Coords) (A : S200x64x256.Idx → Elt F .f32) (N : S256x1024.Idx → Elt F .f32) : S8x64x1024.Idx → Elt F .f32 :=
  (k1_pay4 (slab i A) N : FVec F S8x64x1024 .f32)

/-! ## Loads and stores of an owned buffer -/

/-- The TensorCore owns the buffer whole, with the contents `X`. -/
abbrev ownT (c : Dev nD) {sp : Space} {s : Shape} {e : EltTy} (m : Memref sig .tc sp s e) (X : s.Idx → Elt F e) : sProp 𝕄 :=
  owns (c : Thread nD τ) m fullShare X

theorem wpT_load (c : Dev nD) {s : Shape} {e : EltTy} (m : Memref sig .tc .vmem s e) {r : Rect s} {hl : m.view.LoadsAt r.toLoadRect} {α : Type}
    {k : (r.shape.Idx → Elt F e) → Prog (TpuEff nD τ sig (Elt F) Λ₀ .tc) α} {Q : α → sProp 𝕄} (X : s.Idx → Elt F e) :
    ownT c m X
      ⊢ iprop((ownT c m X -∗ wp frame (wpE defs₀ 𝒱₀ (c : Thread nD τ) none) Set.univ (k fun x => X (r.emb x)) Q)
        -∗ wp frame (wpE defs₀ 𝒱₀ (c : Thread nD τ) none) Set.univ (.op (.load m r.toLoadRect hl) k) Q) := by
  unfold ownT owns
  iintro ⟨%f, %hf, H⟩ Hk
  subst hf
  iapply (wp_load_rect (defs := defs₀) 𝒱₀ (c : Thread nD τ) none Set.univ (Q := Q) (m := m) (r := r) (hl := hl) (k := k)
    (S := m.view.set) (q := fullShare) (f := f) (View.set_slice_subset _ _)) $$ H
  iintro H
  iapply Hk
  iexists f
  isplitr
  · ipureintro; rfl
  · iexact H

/-- A load of the whole buffer. -/
theorem wpT_load_all (c : Dev nD) {s : Shape} {e : EltTy} (m : Memref sig .tc .vmem s e) {off : Fin s.rank → ℕ}
    {inb : ∀ a, off a + s.size a ≤ s.size a} {hl : m.view.LoadsAt (Rect.unit (s := s) off s.size inb).toLoadRect} {α : Type}
    {k : (s.Idx → Elt F e) → Prog (TpuEff nD τ sig (Elt F) Λ₀ .tc) α} {Q : α → sProp 𝕄} (X : s.Idx → Elt F e) :
    ownT c m X
      ⊢ iprop((ownT c m X -∗ wp frame (wpE defs₀ 𝒱₀ (c : Thread nD τ) none) Set.univ (k X) Q)
        -∗ wp frame (wpE defs₀ 𝒱₀ (c : Thread nD τ) none) Set.univ (.op (.load m (Rect.unit (s := s) off s.size inb).toLoadRect hl) k) Q) := by
  have e : (fun x => X ((Rect.unit (s := s) off s.size inb).emb x)) = X := funext fun x => by rw [Rect.emb_unit_full]
  have h := wpT_load (F := F) c m (r := Rect.unit (s := s) off s.size inb) (hl := hl) (k := k) (Q := Q) X
  rw [e] at h
  exact h

theorem wpT_store_all (c : Dev nD) {s : Shape} {e : EltTy} (m : Memref sig .tc .vmem s e) {off : Fin s.rank → ℕ}
    {inb : ∀ a, off a + s.size a ≤ s.size a} {w : s.Idx → Elt F e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {α : Type} {k : PUnit → Prog (TpuEff nD τ sig (Elt F) Λ₀ .tc) α} {Q : α → sProp 𝕄} (X : s.Idx → Elt F e) :
    ownT c m X
      ⊢ iprop((ownT c m w -∗ wp frame (wpE defs₀ 𝒱₀ (c : Thread nD τ) none) Set.univ (k ⟨⟩) Q)
        -∗ wp frame (wpE defs₀ 𝒱₀ (c : Thread nD τ) none) Set.univ (.op (.store m (Rect.unit (s := s) off s.size inb) w Finset.univ hx hm) k) Q) := by
  unfold ownT owns
  iintro ⟨%f, %hf, H⟩ Hk
  iapply (wp_store (defs := defs₀) 𝒱₀ (c : Thread nD τ) none Set.univ (Q := Q) (m := m) (r := Rect.unit (s := s) off s.size inb) (w := w) (hx := hx) (hm := hm) (k := k)
    (S := m.view.set) (f := f) (View.set_slice_subset _ _)) $$ H
  iintro H
  iapply Hk
  iexists _
  isplitr
  rotate_left
  · iexact H
  · ipureintro
    funext j
    have h := View.read_slice_write_emb (v := m.view) (Val := Elt F) (r := Rect.unit (s := s) off s.size inb) f w (M := Finset.univ) (Finset.mem_univ j)
    rw [Rect.emb_unit_full] at h
    exact h

/-! ## The body at a point -/

/-- The branch is taken at the first point and at no other. -/
theorem first_iff (i : grid1.Coords) :
    Scalar.cmpi .ne (Scalar.extui (Scalar.cmpi .eq (BitVec.ofNat 32 (i 0).val) 0#32) : BitVec 32) 0#32 = 1#1 ↔ (i 0).val = 0 := by
  revert i; decide +kernel

/-- The part of the body every point runs: read the point's rows and the two count tables, write the two products. -/
def expandTail (i : grid1.Coords) (a4 a5 : Memref sig .tc .vmem S256x1024 .f32) (a6 a7 : Memref sig .tc .vmem S8x64x1024 .f32)
    (a8 : Memref sig .tc .vmem S200x64x256 .f32) : Prog (TpuEff nD τ sig (Elt F) Λ₀ .tc) PUnit := do
  let v5 : Vec F S8x64x256 .f32 ← Prog.lift (.load a8 (Rect.unit (s := S200x64x256) (k1_off1 i) S8x64x256.size (k1_off1_inb i)).toLoadRect (View.loadsAt_vmem h_S8x64x256))
  let v7 : Vec F S256x1024 .f32 ← Prog.lift (.load a4 (Rect.unit (s := S256x1024) ![0, 0] S256x1024.size inb_S256x1024_S256x1024_0_0).toLoadRect (View.loadsAt_vmem h_S256x1024))
  let v11 : Vec F S8x64x1024 .f32 ← Prog.lift (.load a6 (Rect.unit (s := S8x64x1024) ![0, 0, 0] S8x64x1024.size inb_S8x64x1024_S8x64x1024_0_0_0).toLoadRect (View.loadsAt_vmem h_S8x64x1024))
  Prog.lift (.store a6 (Rect.unit (s := S8x64x1024) ![0, 0, 0] S8x64x1024.size inb_S8x64x1024_S8x64x1024_0_0_0) (k1_pay3 v5 v7) Finset.univ (View.stores_vmem_bits_univ h_S8x64x1024 rfl) (.inl rfl))
  let v12 : Vec F S256x1024 .f32 ← Prog.lift (.load a5 (Rect.unit (s := S256x1024) ![0, 0] S256x1024.size inb_S256x1024_S256x1024_0_0).toLoadRect (View.loadsAt_vmem h_S256x1024))
  let v16 : Vec F S8x64x1024 .f32 ← Prog.lift (.load a7 (Rect.unit (s := S8x64x1024) ![0, 0, 0] S8x64x1024.size inb_S8x64x1024_S8x64x1024_0_0_0).toLoadRect (View.loadsAt_vmem h_S8x64x1024))
  Prog.lift (.store a7 (Rect.unit (s := S8x64x1024) ![0, 0, 0] S8x64x1024.size inb_S8x64x1024_S8x64x1024_0_0_0) (k1_pay4 v5 v12) Finset.univ (View.stores_vmem_bits_univ h_S8x64x1024 rfl) (.inl rfl))
  pure ⟨⟩

/-- A run of the body: the three small arrays and the two count tables are left as they were; the scratch buffer is left at
    the matrix, provided it already holds it at every point but the first; the two result blocks are left at their products. -/
theorem wp_expand (c : Dev nD) (i : grid1.Coords)
    (a1 : Memref sig .tc .vmem S1x64 .f32) (h1 : a1.IsWhole) (a2 : Memref sig .tc .vmem S64x64 .f32) (h2 : a2.IsWhole)
    (a3 : Memref sig .tc .vmem S64 .f32) (h3 : a3.IsWhole) (a4 : Memref sig .tc .vmem S256x1024 .f32) (h4 : a4.IsWhole)
    (a5 : Memref sig .tc .vmem S256x1024 .f32) (h5 : a5.IsWhole) (a6 : Memref sig .tc .vmem S8x64x1024 .f32) (h6 : a6.IsWhole)
    (a7 : Memref sig .tc .vmem S8x64x1024 .f32) (h7 : a7.IsWhole) (a8 : Memref sig .tc .vmem S200x64x256 .f32) (h8 : a8.IsWhole)
    (W1 : S1x64.Idx → Elt F .f32) (W2 : S64x64.Idx → Elt F .f32) (b2 : S64.Idx → Elt F .f32)
    (N M : S256x1024.Idx → Elt F .f32) (u v : S8x64x1024.Idx → Elt F .f32) (A : S200x64x256.Idx → Elt F .f32)
    (hA : (i 0).val ≠ 0 → A = built W1 W2 b2) {Q : PUnit → sProp 𝕄} :
    iprop(ownT c a1 W1 ∗ ownT c a2 W2 ∗ ownT c a3 b2 ∗ ownT c a4 N ∗ ownT c a5 M ∗ ownT c a6 u ∗ ownT c a7 v ∗ ownT c a8 A)
      ⊢ iprop((ownT c a1 W1 ∗ ownT c a2 W2 ∗ ownT c a3 b2 ∗ ownT c a4 N ∗ ownT c a5 M
            ∗ ownT c a6 (prodA i (built W1 W2 b2) N) ∗ ownT c a7 (prodB i (built W1 W2 b2) M) ∗ ownT c a8 (built W1 W2 b2) -∗ Q ⟨⟩)
        -∗ wp frame (wpE defs₀ 𝒱₀ (c : Thread nD τ) none) Set.univ (cc1__tc_expand_kernel (F := F) i a1 h1 a2 h2 a3 h3 a4 h4 a5 h5 a6 h6 a7 h7 a8 h8) Q) := by
  have tail : iprop(ownT c a4 N ∗ ownT c a5 M ∗ ownT c a6 u ∗ ownT c a7 v ∗ ownT c a8 (built W1 W2 b2))
      ⊢ iprop((ownT c a4 N ∗ ownT c a5 M
            ∗ ownT c a6 (prodA i (built W1 W2 b2) N) ∗ ownT c a7 (prodB i (built W1 W2 b2) M) ∗ ownT c a8 (built W1 W2 b2) -∗ Q ⟨⟩)
        -∗ wp frame (wpE defs₀ 𝒱₀ (c : Thread nD τ) none) Set.univ (expandTail i a4 a5 a6 a7 a8) Q) := by
    iintro ⟨H4, H5, H6, H7, H8⟩ Hk
    unfold expandTail
    simp only [Prog.lift, Prog.bind_op, Prog.bind_ret, Prog.pure_eq_ret]
    iapply (wpT_load c a8) $$ H8
    iintro H8
    iapply (wpT_load_all c a4) $$ H4
    iintro H4
    iapply (wpT_load_all c a6) $$ H6
    iintro H6
    iapply (wpT_store_all c a6) $$ H6
    iintro H6
    iapply (wpT_load_all c a5) $$ H5
    iintro H5
    iapply (wpT_load_all c a7) $$ H7
    iintro H7
    iapply (wpT_store_all c a7) $$ H7
    iintro H7
    sl_step
    iapply Hk
    isplitl [H4]; · iexact H4
    isplitl [H5]; · iexact H5
    isplitl [H6]; · iexact H6
    isplitl [H7]; · iexact H7
    iexact H8
  rw [cc1__tc_expand_kernel_eq_skeleton]
  unfold cc1__tc_expand_kernel_skel
  by_cases h0 : (i 0).val = 0
  · iintro ⟨H1, H2, H3, H4, H5, H6, H7, H8⟩ Hk
    unfold expandTail at tail
    simp only [Prog.lift, Prog.bind_op, Prog.bind_ret, Prog.pure_eq_ret] at tail ⊢
    rw [dif_pos ((first_iff i).mpr h0)]
    iapply (wpT_load_all c a1) $$ H1
    iintro H1
    iapply (wpT_load_all c a2) $$ H2
    iintro H2
    iapply (wpT_load_all c a3) $$ H3
    iintro H3
    iapply (wpT_load_all c a8) $$ H8
    iintro H8
    iapply (wpT_store_all c a8) $$ H8
    iintro H8
    iapply tail $$ [H4 H5 H6 H7 H8]
    · isplitl [H4]; · iexact H4
      isplitl [H5]; · iexact H5
      isplitl [H6]; · iexact H6
      isplitl [H7]; · iexact H7
      iexact H8
    iintro H
    iapply Hk
    isplitl [H1]; · iexact H1
    isplitl [H2]; · iexact H2
    isplitl [H3]; · iexact H3
    iexact H
  · obtain rfl := hA h0
    iintro ⟨H1, H2, H3, H⟩ Hk
    unfold expandTail at tail
    simp only [Prog.lift, Prog.bind_op, Prog.bind_ret, Prog.pure_eq_ret] at tail ⊢
    rw [dif_neg (fun h => h0 ((first_iff i).mp h))]
    iapply tail $$ H
    iintro H
    iapply Hk
    isplitl [H1]; · iexact H1
    isplitl [H2]; · iexact H2
    isplitl [H3]; · iexact H3
    iexact H

end Cert.KernelIdeal.Run
-- ==== Proof.Region.lean ====
/-
  The TensorCore pipeline that spreads the counts over the output rows, as one region of the program: what each window's
  staging buffer holds at each of the 25 points, the body's run at a point out of those buffers, and the two result arrays
  after the last point.
-/
module

public import proofs.«01_k».proof.Proof.Expand
public import Idealize.ShloMosaic.Lib.Pipeline.Regions
public import Idealize.ShloMosaic.Lib.Pipeline.RegionArraysS
public import Idealize.ShloMosaic.Lib.Pipeline.FrameBody
public import Idealize.ShloMosaic.Lib.Pipeline.Value

@[expose] public section

noncomputable section

namespace Cert.KernelIdeal.Run

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-- The contents of the device's buffers when the region is entered. -/
abbrev Mem (F : FTy → Type) : Type := Valuation τ sig (Elt F)

section

variable (W : Mem F)

/-- The matrix built at the first point, from the buffers at entry. -/
def builtAt : S200x64x256.Idx → Elt F .f32 :=
  built (W (Proc.devRef .tc main_arg2) : S1x64.Idx → Elt F .f32) (W (Proc.devRef .tc main_arg4) : S64x64.Idx → Elt F .f32)
    (W (Proc.devRef .tc main_arg5) : S64.Idx → Elt F .f32)

/-- The first result's block at a point, from the buffers at entry; -/
def outA (i : grid1.Coords) : S8x64x1024.Idx → Elt F .f32 := prodA i (builtAt W) (W (Proc.devRef .tc main_v10) : S256x1024.Idx → Elt F .f32)
/-- the second's. -/
def outB (i : grid1.Coords) : S8x64x1024.Idx → Elt F .f32 := prodB i (builtAt W) (W (Proc.devRef .tc main_v12) : S256x1024.Idx → Elt F .f32)

end

variable (W : Dev nD → Mem F)

/-- The levels a wait on the TensorCore may have recorded once the SparseCore call is over. -/
def below (c : Dev nD) : Set (SemLoc sig × HIx 1) := {p | (K (F := F)).lev (c.tc, p.1) p.2 ≤ 8}

/-- The scratch buffer: at anything before the first point, at the matrix from then on. -/
def Φs (c : Dev nD) (n : ℕ) : sProp 𝕄 :=
  iprop(∃ A : S200x64x256.Idx → Elt F .f32, ⌜n ≠ 0 → A = builtAt (W c)⌝ ∗ ownT c (Memref.whole cc1_scratch0) A)

/-- The proof data of the region on the device: the arrays at entry, the contents each staging buffer is left with at each
    point, the scratch buffer between points; nothing owed. -/
def dats (_ : Fin 1) (c : Dev nD) : Dat τ (Elt F) (HIx 1) ℕ UU ℕ cfg1 c where
  A w := W c (Proc.devRef .tc (Pipeline.arrRef spec1 w))
  after w t := match w with
    | ⟨0, _⟩ => ((cfg1.win 0).blk t).view.read (Elt F) (W c (Proc.devRef .tc (Pipeline.arrRef spec1 0)))
    | ⟨1, _⟩ => ((cfg1.win 1).blk t).view.read (Elt F) (W c (Proc.devRef .tc (Pipeline.arrRef spec1 1)))
    | ⟨2, _⟩ => ((cfg1.win 2).blk t).view.read (Elt F) (W c (Proc.devRef .tc (Pipeline.arrRef spec1 2)))
    | ⟨3, _⟩ => ((cfg1.win 3).blk t).view.read (Elt F) (W c (Proc.devRef .tc (Pipeline.arrRef spec1 3)))
    | ⟨4, _⟩ => ((cfg1.win 4).blk t).view.read (Elt F) (W c (Proc.devRef .tc (Pipeline.arrRef spec1 4)))
    | ⟨5, _⟩ => outA (W c) (grid1.coords t)
    | ⟨6, _⟩ => outB (W c) (grid1.coords t)
  Φ t := Φs W c t.val
  q _ := fullShare
  owed _ := 0
  recorded _ := below (F := F) c

/-! ## What the body finds in each buffer

The five inputs are whole arrays, so a block of one is the array; the two result blocks are fresh at every point. -/

theorem blk_0 (c : Dev nD) (t : Fin cfg1.N) :
    ((cfg1.win 0).blk t).view.read (Elt F) (W c (Proc.devRef .tc (Pipeline.arrRef spec1 0))) = (W c (Proc.devRef .tc main_arg2) : S1x64.Idx → Elt F .f32) := by
  funext x
  refine congrArg (W c (Proc.devRef .tc main_arg2) : S1x64.Idx → Elt F .f32) (funext fun a => Fin.ext ?_)
  fin_cases a
  · show 0 * 1 + 1 * (x 0).val = (x 0).val
    omega
  · show 0 * 64 + 1 * (x 1).val = (x 1).val
    omega

theorem bef_0 (c : Dev nD) (t : Fin cfg1.N) (d) : (dats W 0 c).before 0 t d = (W c (Proc.devRef .tc main_arg2) : S1x64.Idx → Elt F .f32) := by
  rw [(dats W 0 c).before_in_eq_fetched 0 rfl (fun _ => rfl) (fun _ _ _ => rfl) (fun _ => rfl) t d]
  exact blk_0 W c t

theorem blk_1 (c : Dev nD) (t : Fin cfg1.N) :
    ((cfg1.win 1).blk t).view.read (Elt F) (W c (Proc.devRef .tc (Pipeline.arrRef spec1 1))) = (W c (Proc.devRef .tc main_arg4) : S64x64.Idx → Elt F .f32) := by
  funext x
  refine congrArg (W c (Proc.devRef .tc main_arg4) : S64x64.Idx → Elt F .f32) (funext fun a => Fin.ext ?_)
  fin_cases a
  · show 0 * 64 + 1 * (x 0).val = (x 0).val
    omega
  · show 0 * 64 + 1 * (x 1).val = (x 1).val
    omega

theorem bef_1 (c : Dev nD) (t : Fin cfg1.N) (d) : (dats W 0 c).before 1 t d = (W c (Proc.devRef .tc main_arg4) : S64x64.Idx → Elt F .f32) := by
  rw [(dats W 0 c).before_in_eq_fetched 1 rfl (fun _ => rfl) (fun _ _ _ => rfl) (fun _ => rfl) t d]
  exact blk_1 W c t

theorem blk_2 (c : Dev nD) (t : Fin cfg1.N) :
    ((cfg1.win 2).blk t).view.read (Elt F) (W c (Proc.devRef .tc (Pipeline.arrRef spec1 2))) = (W c (Proc.devRef .tc main_arg5) : S64.Idx → Elt F .f32) := by
  funext x
  refine congrArg (W c (Proc.devRef .tc main_arg5) : S64.Idx → Elt F .f32) (funext fun a => Fin.ext ?_)
  fin_cases a
  show 0 * 64 + 1 * (x 0).val = (x 0).val
  omega

theorem bef_2 (c : Dev nD) (t : Fin cfg1.N) (d) : (dats W 0 c).before 2 t d = (W c (Proc.devRef .tc main_arg5) : S64.Idx → Elt F .f32) := by
  rw [(dats W 0 c).before_in_eq_fetched 2 rfl (fun _ => rfl) (fun _ _ _ => rfl) (fun _ => rfl) t d]
  exact blk_2 W c t

theorem blk_3 (c : Dev nD) (t : Fin cfg1.N) :
    ((cfg1.win 3).blk t).view.read (Elt F) (W c (Proc.devRef .tc (Pipeline.arrRef spec1 3))) = (W c (Proc.devRef .tc main_v10) : S256x1024.Idx → Elt F .f32) := by
  funext x
  refine congrArg (W c (Proc.devRef .tc main_v10) : S256x1024.Idx → Elt F .f32) (funext fun a => Fin.ext ?_)
  fin_cases a
  · show 0 * 256 + 1 * (x 0).val = (x 0).val
    omega
  · show 0 * 1024 + 1 * (x 1).val = (x 1).val
    omega

theorem bef_3 (c : Dev nD) (t : Fin cfg1.N) (d) : (dats W 0 c).before 3 t d = (W c (Proc.devRef .tc main_v10) : S256x1024.Idx → Elt F .f32) := by
  rw [(dats W 0 c).before_in_eq_fetched 3 rfl (fun _ => rfl) (fun _ _ _ => rfl) (fun _ => rfl) t d]
  exact blk_3 W c t

theorem blk_4 (c : Dev nD) (t : Fin cfg1.N) :
    ((cfg1.win 4).blk t).view.read (Elt F) (W c (Proc.devRef .tc (Pipeline.arrRef spec1 4))) = (W c (Proc.devRef .tc main_v12) : S256x1024.Idx → Elt F .f32) := by
  funext x
  refine congrArg (W c (Proc.devRef .tc main_v12) : S256x1024.Idx → Elt F .f32) (funext fun a => Fin.ext ?_)
  fin_cases a
  · show 0 * 256 + 1 * (x 0).val = (x 0).val
    omega
  · show 0 * 1024 + 1 * (x 1).val = (x 1).val
    omega

theorem bef_4 (c : Dev nD) (t : Fin cfg1.N) (d) : (dats W 0 c).before 4 t d = (W c (Proc.devRef .tc main_v12) : S256x1024.Idx → Elt F .f32) := by
  rw [(dats W 0 c).before_in_eq_fetched 4 rfl (fun _ => rfl) (fun _ _ _ => rfl) (fun _ => rfl) t d]
  exact blk_4 W c t

/-! ## The body at a point -/

/-- The point's coordinate is its number. -/
theorem coords_val (t : Fin grid1.N) : ((grid1.coords t) 0).val = t.val := by
  revert t; decide +kernel

theorem body_obligation (c : Dev nD) : BodyObligation (dats W 0 c) (defs₀ (F := F)) 𝒱₀ none Set.univ := fun t => by
  rw [bigSep_W1, bigSep_W1]
  simp only [bef_0, bef_1, bef_2, bef_3, bef_4]
  show iprop(Φs W c t.val ∗ _) ⊢ wp _ _ _ _ fun _ => iprop(Φs W c (t.val + 1) ∗ _)
  unfold Φs
  rw [show (dats W 0 c).owesAt none t.castSucc = (dats W 0 c).owesAt none t.succ from rfl]
  iintro ⟨⟨%A, %hA, H8⟩, HO, ⟨%d1, H1⟩, ⟨%d2, H2⟩, ⟨%d3, H3⟩, ⟨%d4, H4⟩, ⟨%d5, H5⟩, ⟨%d6, H6⟩, ⟨%d7, H7⟩⟩
  iapply (wp_expand c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (Memref.whole cc1_scratch0) (Memref.isWhole_whole _)
    _ _ _ _ _ _ _ A (fun h => hA (by rw [coords_val] at h; exact h))) $$ [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H1, H2, H3, H4, H5, H6, H7, H8⟩
  isplitl [H8]
  · iexists builtAt (W c)
    isplitr
    · ipureintro; exact fun _ => rfl
    · iexact H8
  isplitl [HO]; · iexact HO
  isplitl [H1]
  · rw [← blk_0 W c t]; iexact H1
  isplitl [H2]
  · rw [← blk_1 W c t]; iexact H2
  isplitl [H3]
  · rw [← blk_2 W c t]; iexact H3
  isplitl [H4]
  · rw [← blk_3 W c t]; iexact H4
  isplitl [H5]
  · rw [← blk_4 W c t]; iexact H5
  isplitl [H6]; · iexact H6
  iexact H7

/-! ## The region -/

/-- No table is prefetched. -/
abbrev adm : (p : Fin 1) → (pcfgs (F := F) p).Adm := fun p => (cfgs p).toPCfg_adm

/-- The kernel has no semaphore of its own. -/
abbrev osem : Fin 0 → SemLoc sig := fun k => k.elim0

theorem ownSemFacts : Pipeline.OwnSemFacts spec1 osem := by decide

/-- What the TensorCore owes while no SparseCore call is in flight: nothing, its recorded waits bounded. -/
def idle (c : Dev nD) : sProp 𝕄 := iprop(∃ Wd, ⌜(K (F := F)).WBelow (c.tc) Wd 8⌝ ∗ owes (c.tc : Thread nD τ) (0 : CellTallies nD τ sig (HIx 1)) Wd)

omit [FloatOps F] in
theorem ownT_scratch (c : Dev nD) (A : Buf (Elt F) ((c.tc : Thread nD τ).loc cc1_scratch0)) :
    (ownT c (Memref.whole cc1_scratch0) A : sProp 𝕄) = ((c.tc : Thread nD τ).loc cc1_scratch0 ↦{fullShare} A) := by
  unfold ownT; rw [owns_whole]

theorem arr_sub : Pipeline.arrRefs spec1 ⊆ Pipeline.ucRefs τ sig := Pipeline.arrRefs_sub_ucRefs spec1 launch1.win.arr_unscoped

set_option backward.isDefEq.respectTransparency.types false in
/-- The region, entered and left with every buffer of @main held: at `W c` before, the two results at their values after. -/
def reg : Pipeline.RegionSeg (pcfgs (F := F)) adm (dats W) none defs₀ 𝒱₀ (K (F := F)).L (K (F := F)).lev 0 where
  win := launch1.win.to₀
  block_pos := launch1.block_pos
  stage_whole := launch1.stage_whole
  K := Fin 0
  osem := osem
  ho := ownSemFacts
  hbody c := (body_obligation W c).loose
  hwaits := Pipeline.hwaits_of_owed_zero _ _ _ _ _ _ 0 fun _ _ => rfl
  pre c := iprop(StableHlo.held (c.tc : Thread nD τ) (Pipeline.ucRefs τ sig) (W c) ∗ idle (F := F) c)
  post c := iprop(StableHlo.held (c.tc : Thread nD τ) (Pipeline.ucRefs τ sig) (Pipeline.afterRegion (dats W 0 c) (W c)) ∗ idle (F := F) c)
  X _ := iprop(emp)
  Y _ := iprop(emp)
  Z c := StableHlo.held (c.tc : Thread nD τ) (Pipeline.ucRefs τ sig \ Pipeline.arrRefs spec1) (W c)
  hentry c := by
    rw [StableHlo.held_sub_split (c.tc : Thread nD τ) arr_sub (W c),
      ← Pipeline.arrays_held (pcfgs (F := F)) adm (dats W) 0 launch1.toP c ((dats W 0 c).share_full fun _ => rfl) ((dats W 0 c).arrAt · 0) (W c) (fun _ => rfl)]
    unfold idle Pipeline.Dat.owesAt Pipeline.owesWithin
    iintro ⟨⟨⟨Ha, Hz⟩, ⟨%Wd, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · iexists Wd
      isplitr
      · ipureintro; exact fun p hp => Or.inl (hW p hp)
      · iexact HO
    isplitr; · iempintro
    iexact Hz
  hin c := by
    rw [show (dats W 0 c).Φ 0 = Φs W c 0 from rfl, scopedRest1_eq]
    unfold Φs
    iintro ⟨-, -, ⟨%f, H⟩⟩
    iexists f
    isplitr
    · ipureintro; exact fun h => absurd rfl h
    · iapply (Entails.of_eq (ownT_scratch c f).symm); iexact H
  hout c := by
    rw [show (dats W 0 c).Φ (Fin.last cfg1.N) = Φs W c cfg1.N from rfl, scopedRest1_eq]
    unfold Φs
    iintro ⟨%A, -, H⟩
    isplitr; · iempintro
    isplitr
    · unfold Pipeline.ownSems0; rw [show (Finset.univ : Finset (Fin 0)) = ∅ from rfl, BI.bigSep_empty]; iempintro
    iexists A
    iapply (Entails.of_eq (ownT_scratch c A))
    iexact H
  hexit c := by
    rw [StableHlo.held_sub_split (c.tc : Thread nD τ) arr_sub (Pipeline.afterRegion (dats W 0 c) (W c)),
      StableHlo.held_congr (c.tc : Thread nD τ) (S := Pipeline.ucRefs τ sig \ Pipeline.arrRefs spec1) (V := Pipeline.afterRegion (dats W 0 c) (W c)) (V' := W c)
        (Pipeline.afterRegion_off (dats W 0 c) (W c) _),
      ← Pipeline.arrays_held (pcfgs (F := F)) adm (dats W) 0 launch1.toP c ((dats W 0 c).share_full fun _ => rfl) ((dats W 0 c).arrAt · cfg1.N)
        (Pipeline.afterRegion (dats W 0 c) (W c)) (fun w => (Pipeline.afterRegion_arr (dats W 0 c) (W c) launch1.win.arr_inj w).symm)]
    unfold idle Pipeline.Dat.owesAt Pipeline.owesWithin
    iintro ⟨Ha, ⟨%Wd, %hW, HO⟩, -, Hz⟩
    imodintro
    isplitl [Ha Hz]
    · isplitl [Ha]; · iexact Ha
      iexact Hz
    iexists Wd
    isplitr
    · ipureintro
      intro p hp
      rcases hW hp with h | ⟨w, s, rfl⟩
      · exact h
      · exact Nat.zero_le _
    · iexact HO

theorem reg_pre (c : Dev nD) : (reg W).pre c = iprop(StableHlo.held (c.tc : Thread nD τ) (Pipeline.ucRefs τ sig) (W c) ∗ idle (F := F) c) := rfl
theorem reg_post (c : Dev nD) : (reg W).post c
    = iprop(StableHlo.held (c.tc : Thread nD τ) (Pipeline.ucRefs τ sig) (Pipeline.afterRegion (dats W 0 c) (W c)) ∗ idle (F := F) c) := rfl

/-- The rounds of the pipeline's cells on the device: what the region is entered with beside its buffers. -/
def ghost (c : Dev nD) : sProp 𝕄 := Pipeline.ghostOn (pcfgs (F := F)) adm ET Finset.univ c

set_option backward.isDefEq.respectTransparency.types false in
/-- The region as @main runs it. -/
theorem wp_region (c : Dev nD) {Q : PUnit → sProp 𝕄} :
    iprop(levAts (K (F := F)).L (K (F := F)).lev ∗ boundary (c.tc : Thread nD τ) ∗ ghost (F := F) c
        ∗ StableHlo.held (c.tc : Thread nD τ) (Pipeline.ucRefs τ sig) (W c) ∗ idle (F := F) c)
      ⊢ iprop((boundary (c.tc : Thread nD τ) ∗ StableHlo.held (c.tc : Thread nD τ) (Pipeline.ucRefs τ sig) (Pipeline.afterRegion (dats W 0 c) (W c))
            ∗ idle (F := F) c -∗ Q ⟨⟩)
        -∗ wp frame (wpE ((K (F := F)).defs D) 𝒱 (c.tc : Thread nD τ) none) Set.univ
            (Prog.lift (.customCall (SparseCore.inner (Pipeline.entry 0)) ()) : Prog (TpuEff nD τ sig (Elt F) (SparseCore.Sig (ΛP (F := F)) 1) .tc) PUnit) Q) := by
  have h := Pipeline.RegionSeg.wp (pcfgs (F := F)) adm (dats W) none cellOf_inj ET defs₀ 𝒱₀ (K (F := F)).L (K (F := F)).lev (reg W) c none
    (fun _ h => nomatch h) (fun _ => .ret ⟨⟩) Q
  have hpre := Entails.of_eq (reg_pre W c).symm
  have hpost := Entails.of_eq (reg_post W c)
  have hl := (K (F := F)).wp_liftProg D 𝒱 (c.tc : Thread nD τ) Set.univ none (.op (.customCall (Pipeline.entry 0) ()) fun _ => .ret ⟨⟩) Q
  iintro ⟨#Hl, Hb, Hg, Hh, Hi⟩ Hk
  iapply hl
  iapply h
  isplitl [Hk]
  · iintro ⟨Hb, Hp⟩
    sl_step
    iapply Hk
    isplitl [Hb]; · iexact Hb
    iapply hpost
    iexact Hp
  isplitl [Hb]; · iexact Hb
  isplitl [Hh Hi]
  · iapply hpre
    isplitl [Hh]; · iexact Hh
    iexact Hi
  isplitr; · iexact Hl
  unfold ghost
  ihave Hg' := (Entails.of_eq (Pipeline.PerCore.ghostOn_erase (pcfgs (F := F)) (fun _ => adm) ET (Finset.mem_univ (0 : Fin 1)) c)) $$ Hg
  icases Hg' with ⟨Hg, -⟩
  iexact Hg

end Cert.KernelIdeal.Run
-- ==== Proof.Main.lean ====
/-
  @main on the TensorCore, the launch, and the program's run over any float values: the arguments kept, the two results at their value.
-/
module

public import proofs.«01_k».proof.Proof.Region

@[expose] public section

noncomputable section

namespace Cert.KernelIdeal.Run

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

/-! ## The host operations -/

/-- The host operations before the SparseCore call: the two id arrays, each row padded by eight ids of its own. -/
abbrev opsA : List (HloOp τ sig (Elt F)) :=
  [StableHlo.nullary main_v0 (iotaInDim S8 32 0),
   StableHlo.nullary main_c (constantI S_ 32 1000#32),
   StableHlo.unary main_c main_v1 (broadcastInDim S8 ![] bcast_S_S8 : (⟨S_, .i32⟩ : BufTy).Contents (Elt F) → (⟨S8, .i32⟩ : BufTy).Contents (Elt F)),
   StableHlo.binary main_v1 main_v0 main_v2 (addi : (⟨S8, .i32⟩ : BufTy).Contents (Elt F) → (⟨S8, .i32⟩ : BufTy).Contents (Elt F) → (⟨S8, .i32⟩ : BufTy).Contents (Elt F)),
   StableHlo.unary main_v2 main_v3 (broadcastInDim S1024x8 ![1] bcast_S8_S1024x8_1 : (⟨S8, .i32⟩ : BufTy).Contents (Elt F) → (⟨S1024x8, .i32⟩ : BufTy).Contents (Elt F)),
   StableHlo.binary main_arg0 main_v3 main_v4 ((fun a b => concatenate S1024x208 1 [⟨S1024x200, a⟩, ⟨S1024x8, b⟩] concatenates_S1024x200_S1024x8_S1024x208_d1) : (⟨S1024x200, .i32⟩ : BufTy).Contents (Elt F) → (⟨S1024x8, .i32⟩ : BufTy).Contents (Elt F) → (⟨S1024x208, .i32⟩ : BufTy).Contents (Elt F)),
   StableHlo.binary main_arg1 main_v3 main_v5 ((fun a b => concatenate S1024x208 1 [⟨S1024x200, a⟩, ⟨S1024x8, b⟩] concatenates_S1024x200_S1024x8_S1024x208_d1) : (⟨S1024x200, .i32⟩ : BufTy).Contents (Elt F) → (⟨S1024x8, .i32⟩ : BufTy).Contents (Elt F) → (⟨S1024x208, .i32⟩ : BufTy).Contents (Elt F))]

/-- Those between the two calls: the counts transposed, a row of ones and rows of zeros under them. -/
abbrev opsB : List (HloOp τ sig (Elt F)) :=
  [StableHlo.nullary main_cst (constant S_ .f32 0x3F800000#32),
   StableHlo.unary main_cst main_v7 (broadcastInDim S1x1024 ![] bcast_S_S1x1024 : (⟨S_, .f32⟩ : BufTy).Contents (Elt F) → (⟨S1x1024, .f32⟩ : BufTy).Contents (Elt F)),
   StableHlo.nullary main_cst_0 (constant S_ .f32 0x00000000#32),
   StableHlo.unary main_cst_0 main_v8 (broadcastInDim S47x1024 ![] bcast_S_S47x1024 : (⟨S_, .f32⟩ : BufTy).Contents (Elt F) → (⟨S47x1024, .f32⟩ : BufTy).Contents (Elt F)),
   StableHlo.unary main_v6_0 main_v9 ((transpose S208x1024 [1, 0] · transposes_S1024x208_S208x1024_1_0) : (⟨S1024x208, .f32⟩ : BufTy).Contents (Elt F) → (⟨S208x1024, .f32⟩ : BufTy).Contents (Elt F)),
   StableHlo.nary ![main_v9, main_v7, main_v8] main_v10 (fun u => (concatenate S256x1024 0 [⟨S208x1024, (u 0 : (⟨S208x1024, .f32⟩ : BufTy).Contents (Elt F))⟩, ⟨S1x1024, (u 1 : (⟨S1x1024, .f32⟩ : BufTy).Contents (Elt F))⟩, ⟨S47x1024, (u 2 : (⟨S47x1024, .f32⟩ : BufTy).Contents (Elt F))⟩] concatenates_S208x1024_S1x1024_S47x1024_S256x1024_d0 : (⟨S256x1024, .f32⟩ : BufTy).Contents (Elt F))),
   StableHlo.unary main_v6_1 main_v11 ((transpose S208x1024 [1, 0] · transposes_S1024x208_S208x1024_1_0) : (⟨S1024x208, .f32⟩ : BufTy).Contents (Elt F) → (⟨S208x1024, .f32⟩ : BufTy).Contents (Elt F)),
   StableHlo.nary ![main_v11, main_v7, main_v8] main_v12 (fun u => (concatenate S256x1024 0 [⟨S208x1024, (u 0 : (⟨S208x1024, .f32⟩ : BufTy).Contents (Elt F))⟩, ⟨S1x1024, (u 1 : (⟨S1x1024, .f32⟩ : BufTy).Contents (Elt F))⟩, ⟨S47x1024, (u 2 : (⟨S47x1024, .f32⟩ : BufTy).Contents (Elt F))⟩] concatenates_S208x1024_S1x1024_S47x1024_S256x1024_d0 : (⟨S256x1024, .f32⟩ : BufTy).Contents (Elt F)))]

/-- Those after: the two results, the batch axis first. -/
abbrev opsC : List (HloOp τ sig (Elt F)) :=
  [StableHlo.unary main_v13_0 main_v14 ((transpose S1024x200x64 [2, 0, 1] · transposes_S200x64x1024_S1024x200x64_2_0_1) : (⟨S200x64x1024, .f32⟩ : BufTy).Contents (Elt F) → (⟨S1024x200x64, .f32⟩ : BufTy).Contents (Elt F)),
   StableHlo.unary main_v13_1 main_v15 ((transpose S1024x200x64 [2, 0, 1] · transposes_S200x64x1024_S1024x200x64_2_0_1) : (⟨S200x64x1024, .f32⟩ : BufTy).Contents (Elt F) → (⟨S1024x200x64, .f32⟩ : BufTy).Contents (Elt F))]

theorem main_eq (d : Dev nD) : main (F := F) d
    = StableHlo.seq opsA >>= fun _ => (K (F := F)).run d 0 >>= fun _ => StableHlo.seq opsB >>= fun _ =>
        (Prog.lift (.customCall (SparseCore.inner (Pipeline.entry 0)) ()) : Prog (TpuEff nD τ sig (Elt F) (SparseCore.Sig (ΛP (F := F)) 1) .tc) PUnit)
          >>= fun _ => StableHlo.seq opsC >>= fun _ => pure ⟨⟩ := by
  simp only [main, opsA, opsB, opsC, StableHlo.seq, bind_assoc, pure_bind]

theorem sub_opsA : ∀ op ∈ opsA (F := F), op.bufs ⊆ Pipeline.ucRefs τ sig ∧ op.fresh = ∅ := by
  simp only [opsA, List.forall_mem_cons, List.not_mem_nil, false_implies, implies_true, and_true]
  refine ⟨?_, ?_, ?_, ?_, ?_, ?_, ?_⟩ <;> exact ⟨Pipeline.sub_ucRefs _ (by simp), rfl⟩
theorem sub_opsB : ∀ op ∈ opsB (F := F), op.bufs ⊆ Pipeline.ucRefs τ sig ∧ op.fresh = ∅ := by
  simp only [opsB, List.forall_mem_cons, List.not_mem_nil, false_implies, implies_true, and_true]
  refine ⟨?_, ?_, ?_, ?_, ?_, ?_, ?_, ?_⟩ <;> exact ⟨Pipeline.sub_ucRefs _ (by simp), rfl⟩
theorem sub_opsC : ∀ op ∈ opsC (F := F), op.bufs ⊆ Pipeline.ucRefs τ sig ∧ op.fresh = ∅ := by
  simp only [opsC, List.forall_mem_cons, List.not_mem_nil, false_implies, implies_true, and_true]
  refine ⟨?_, ?_⟩ <;> exact ⟨Pipeline.sub_ucRefs _ (by simp), rfl⟩

/-! ## The memory as @main runs -/

variable (m : (ℓ : Loc nD τ sig) → Buf (Elt F) ℓ) (ρ : Dev nD → PrngReg)

/-- The TensorCore's reference named by a device. -/
abbrev rf (b : Ref sig .tc) : DevRef τ sig := Proc.devRef .tc b

/-- The ids name vocabulary entries. -/
def InRange : Prop := ∀ d : Dev nD, (∀ j : S1024x200.Idx, (m ((SparseCore.T d).loc main_arg0) j : BitVec 32).toNat < 1000)
  ∧ ∀ j : S1024x200.Idx, (m ((SparseCore.T d).loc main_arg1) j : BitVec 32).toNat < 1000

/-- At launch; before the SparseCore call. -/
def M0 (d : Dev nD) : Mem F := fun b => m (d, b)
def M1 (d : Dev nD) : Mem F := StableHlo.after opsA (M0 m d)

/-- The eight ids a row is padded by: 1000 and up. -/
def pad : S1024x8.Idx → Elt F .i32 :=
  broadcastInDim S1024x8 ![1] bcast_S8_S1024x8_1 (addi (broadcastInDim S8 ![] bcast_S_S8 (constantI S_ 32 1000#32)) (iotaInDim S8 32 0))

/-- An id array, padded. -/
def padded (a : S1024x200.Idx → Elt F .i32) : S1024x208.Idx → Elt F .i32 :=
  concatenate S1024x208 1 [⟨S1024x200, a⟩, ⟨S1024x8, pad⟩] concatenates_S1024x200_S1024x8_S1024x208_d1

theorem M1_v4 (d : Dev nD) : M1 m d (rf main_v4) = padded (m ((SparseCore.T d).loc main_arg0)) := by
  unfold M1 opsA
  simp (discharger := decide) only [StableHlo.after_cons, StableHlo.after_nil, StableHlo.nullary_result', StableHlo.unary_result', StableHlo.binary_result',
    StableHlo.nullary_result_ne', StableHlo.unary_result_ne', StableHlo.binary_result_ne']
  rfl

theorem M1_v5 (d : Dev nD) : M1 m d (rf main_v5) = padded (m ((SparseCore.T d).loc main_arg1)) := by
  unfold M1 opsA
  simp (discharger := decide) only [StableHlo.after_cons, StableHlo.after_nil, StableHlo.nullary_result', StableHlo.unary_result', StableHlo.binary_result',
    StableHlo.nullary_result_ne', StableHlo.unary_result_ne', StableHlo.binary_result_ne']
  rfl

theorem pad_lt (j : S1024x8.Idx) : (pad (F := F) j : BitVec 32).toNat = 1000 + (j 1).val := by
  show (IntOp.addi 1000#32 (BitVec.ofNat 32 (j 1).val)).toNat = _
  have := (j 1).isLt
  simp only [IntOp.addi, BitVec.toNat_add, BitVec.toNat_ofNat]
  have h8 : (j 1).val < 8 := this
  omega

/-- A padded row: the ids, -/
theorem padded_id (a : S1024x200.Idx → Elt F .i32) (j : S1024x208.Idx) (hj : (j 1).val < 200) :
    padded a j = a (fun b => match b with | ⟨0, _⟩ => ⟨(j 0).val, (j 0).isLt⟩ | ⟨1, _⟩ => ⟨(j 1).val, hj⟩) :=
  concatenate_pair_apply_left (1 : Fin S1024x208.rank) a pad concatenates_S1024x200_S1024x8_S1024x208_d1 j rfl _ (fun b => by fin_cases b <;> rfl)

/-- then the padding. -/
theorem padded_pad (a : S1024x200.Idx → Elt F .i32) (j : S1024x208.Idx) (hj : 200 ≤ (j 1).val) :
    (padded a j : BitVec 32).toNat = 800 + (j 1).val := by
  have h1 : (j 1).val < 208 := (j 1).isLt
  unfold padded
  rw [concatenate_pair_apply_right (1 : Fin S1024x208.rank) a pad concatenates_S1024x200_S1024x8_S1024x208_d1 j rfl rfl
    (fun b => match b with | ⟨0, _⟩ => ⟨(j 0).val, (j 0).isLt⟩ | ⟨1, _⟩ => ⟨(j 1).val - 200, show _ < 8 by omega⟩)
    (fun b hb => by
      fin_cases b
      · rfl
      · exact absurd rfl hb)
    (show (j 1).val - 200 + 200 = (j 1).val by omega), pad_lt]
  show 1000 + ((j 1).val - 200) = 800 + (j 1).val
  omega

theorem named_padded (a : S1024x200.Idx → Elt F .i32) (h : ∀ j, (a j : BitVec 32).toNat < 1000) : NamedA (padded a) := by
  intro j
  by_cases hj : (j 1).val < 200
  · rw [padded_id a j hj]
    exact (h _).trans (by decide)
  · have h1 : (j 1).val < 208 := (j 1).isLt
    rw [padded_pad a j (by omega)]
    omega

variable (hr : InRange m)

/-- What the SparseCore call is run on. -/
def ins : Ins F where
  X d := padded (m ((SparseCore.T d).loc main_arg0))
  Y d := padded (m ((SparseCore.T d).loc main_arg1))
  hX d := named_padded _ (hr d).1
  hY d := named_padded _ (hr d).2
  f d := M1 m d (rf main_v6_0)
  g d := M1 m d (rf main_v6_1)

/-- After the SparseCore call; before the TensorCore's; after it; at the end. -/
def M2 (d : Dev nD) : Mem F :=
  Function.update (Function.update (M1 m d) (rf main_v6_0) (cntA ((ins m hr).hX d) ((ins m hr).hY d))) (rf main_v6_1) (cntA ((ins m hr).hY d) ((ins m hr).hX d))

theorem M2_v6_1 (d : Dev nD) : M2 m hr d (rf main_v6_1) = cntA ((ins m hr).hY d) ((ins m hr).hX d) := Function.update_self ..
theorem M2_v6_0 (d : Dev nD) : M2 m hr d (rf main_v6_0) = cntA ((ins m hr).hX d) ((ins m hr).hY d) :=
  (Function.update_of_ne (by decide) ..).trans (Function.update_self ..)
theorem M2_of_ne (d : Dev nD) (b : DevRef τ sig) (h0 : b ≠ rf main_v6_0) (h1 : b ≠ rf main_v6_1) : M2 m hr d b = M1 m d b :=
  (Function.update_of_ne h1 ..).trans (Function.update_of_ne h0 ..)

def M3 (d : Dev nD) : Mem F := StableHlo.after opsB (M2 m hr d)
def M4 (d : Dev nD) : Mem F := Pipeline.afterRegion (dats (M3 m hr) 0 d) (M3 m hr d)
def M5 (d : Dev nD) : Mem F := StableHlo.after opsC (M4 m hr d)

/-! ## The launch's ghost state -/

def u₀ : UU := (initOf (K (F := F)).hsCells (K (F := F)).hsToks, (initOf (Pipeline.cells cfgs cellOf_inj) (Pipeline.launchToks cfgs cellOf_inj), 1))

omit [FloatOps F] in
theorem ownU_split (a : UH) (b : UT) : (ownU (a, (b, (1 : Counters))) : sProp 𝕄) ⊢ iprop(BI.own (EH a) ∗ BI.own (ET b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ (ghost (F := F)))
        ∗ bigSep Finset.univ fun thr : Thread nD τ => bigSep Finset.univ fun q : Fin 1 => (P (ins m hr)).x q thr) := by
  unfold u₀
  iintro Hu
  ihave H := (ownU_split _ _) $$ Hu
  icases H with ⟨HH, HT⟩
  imod (Pipeline.fund_ghost (Pipeline.pin (pcfgs (F := F)) adm) ET cellOf_inj) $$ HT with ⟨Hg, Ht⟩
  imodintro
  isplitl [HH]; · iexact HH
  isplitl [Hg Ht]
  · have hj : iprop((bigSep Finset.univ fun c : Dev nD => bigSep Finset.univ fun p => Pipeline.cellsGhost (Pipeline.pin (pcfgs (F := F)) adm) ET p c)
          ∗ (bigSep Finset.univ fun c : Dev nD => bigSep Finset.univ fun p => (Pipeline.toksInit (Pipeline.pin (pcfgs (F := F)) adm) ET p c : sProp 𝕄)))
        ⊢ bigSep Finset.univ (ghost (F := F)) := by
      rw [← bigSep_sep']
      exact bigSep_mono fun c _ => show iprop((bigSep Finset.univ fun p => Pipeline.cellsGhost (Pipeline.pin (pcfgs (F := F)) adm) ET p c)
            ∗ bigSep Finset.univ fun p => (Pipeline.toksInit (Pipeline.pin (pcfgs (F := F)) adm) ET p c : sProp 𝕄)) ⊢ ghost c
        from Entails.of_eq (by unfold ghost Pipeline.ghostOn Pipeline.PerCore.ghostOn; rw [bigSep_sep'])
    iapply hj
    isplitl [Hg]; · iexact Hg
    iexact Ht
  · have he : (bigSep Finset.univ fun thr : Thread nD τ => bigSep Finset.univ fun q : Fin 1 => (P (ins m hr)).x q thr) = (iprop(emp) : sProp 𝕄) := by
      rw [show (fun thr : Thread nD τ => bigSep Finset.univ fun q : Fin 1 => (P (ins m hr)).x q thr) = fun _ => (iprop(emp) : sProp 𝕄) from
        funext fun _ => bigSep_emp_const _]
      exact bigSep_emp_const _
    rw [he]; iempintro

/-! ## @main on the TensorCore -/

/-- The four arrays of the SparseCore call. -/
abbrev scRefs : Finset (DevRef τ sig) := {rf main_v4, rf main_v5, rf main_v6_0, rf main_v6_1}

omit [FloatOps F] in
theorem scRefs_sub : scRefs ⊆ Pipeline.ucRefs τ sig := by decide

omit [FloatOps F] in
theorem held_sc (d : Dev nD) (W : Mem F) : (StableHlo.held (SparseCore.T d) scRefs W : sProp 𝕄)
    = iprop((sLoc d ↦{fullShare} W (rf main_v4)) ∗ (dLoc d ↦{fullShare} W (rf main_v5)) ∗ (fLoc d ↦{fullShare} W (rf main_v6_0))
        ∗ gLoc d ↦{fullShare} W (rf main_v6_1)) := by
  unfold StableHlo.held
  rw [SparseCore.bigSep_insert' (by decide), SparseCore.bigSep_insert' (by decide), SparseCore.bigSep_insert' (by decide), bigSep_singleton]

/-- What the call is handed, out of the memory before it. -/
theorem st_held (d : Dev nD) : (bigSep Finset.univ fun c : Fin ((K (F := F)).nCore 0) => (P (ins m hr)).st 0 d c)
    = StableHlo.held (SparseCore.T d) scRefs (M1 m d) := by
  rw [st_eq, held_sc, M1_v4, M1_v5]; rfl

/-- What it hands back, in the memory after it. -/
theorem dn_held (d : Dev nD) : (bigSep Finset.univ fun c : Fin ((K (F := F)).nCore 0) => (P (ins m hr)).dn 0 d c)
    = StableHlo.held (SparseCore.T d) scRefs (M2 m hr d) := by
  rw [dn_eq, held_sc, M2_v6_0, M2_v6_1, M2_of_ne m hr d (rf main_v4) (by decide) (by decide), M2_of_ne m hr d (rf main_v5) (by decide) (by decide), M1_v4, M1_v5]
  rfl

theorem rest_held (d : Dev nD) : (StableHlo.held (SparseCore.T d) (Pipeline.ucRefs τ sig \ scRefs) (M1 m d) : sProp 𝕄)
    = StableHlo.held (SparseCore.T d) (Pipeline.ucRefs τ sig \ scRefs) (M2 m hr d) := by
  refine StableHlo.held_congr _ fun b hb => ?_
  have hb' := (Finset.mem_sdiff.mp hb).2
  exact (M2_of_ne m hr d b (fun e => hb' (by rw [e]; decide)) (fun e => hb' (by rw [e]; decide))).symm

theorem M1_split (d : Dev nD) : (StableHlo.held (SparseCore.T d) (Pipeline.ucRefs τ sig) (StableHlo.after opsA (M0 m d)) : sProp 𝕄)
    = iprop((bigSep Finset.univ fun c : Fin ((K (F := F)).nCore 0) => (P (ins m hr)).st 0 d c)
        ∗ StableHlo.held (SparseCore.T d) (Pipeline.ucRefs τ sig \ scRefs) (M2 m hr d)) := by
  rw [st_held m hr d, ← rest_held m hr d]
  exact StableHlo.held_sub_split (SparseCore.T d) scRefs_sub (M1 m d)

omit [FloatOps F] in
theorem Otc_one (d : Dev nD) : (K (F := F)).Otc d 1 = 0 := by
  unfold SparseCore.Cfg.Otc
  exact Finset.sum_eq_zero fun q _ => if_neg (by have := q.isLt; omega)

omit [FloatOps F] in
/-- After the one call the TensorCore owes nothing; the rest of its handshake state is untouched by what follows. -/
theorem tcSt_one (d : Dev nD) : ∃ R : sProp 𝕄, (K (F := F)).tcSt EH d 1 = iprop(idle (F := F) d ∗ R) :=
  ⟨_, by unfold SparseCore.Cfg.tcSt idle; rw [Otc_one]; rfl⟩

abbrev FIN (d : Dev nD) : sProp 𝕄 := StableHlo.held (SparseCore.T d) (Pipeline.ucRefs τ sig) (M5 m hr d)

theorem hmain (κ : GSem nD τ sig → ℕ) (d : Dev nD) :
    iprop((K (F := F)).ctx EH (P (ins m hr)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m hr d ∗ (K (F := F)).tcEnd d) := by
  obtain ⟨R, hR⟩ := tcSt_one (F := F) d
  unfold SparseCore.Cfg.tcRes SparseCore.Cfg.tcEnd
  rw [main_eq, show (unscopedBufs d (fun b => m ((SparseCore.T d).loc b)) : sProp 𝕄) = StableHlo.held (SparseCore.T d) (Pipeline.ucRefs τ sig) (M0 m d) from
    Pipeline.unscopedBufs_held d (M0 m d)]
  iintro ⟨#Hctx, Hst, ⟨Hb, Hh, Hts, -⟩, Hg⟩
  iapply (StableHlo.wp_seq 𝒱 none Set.univ d (Pipeline.ucRefs τ sig) _ opsA (fun op h => (sub_opsA op h).1) (fun op h => (sub_opsA op h).2) (M0 m d)) $$ [Hb Hh]
  · isplitl [Hb]; · iexact Hb
    iexact Hh
  iintro ⟨Hb, Hh⟩
  ihave Hh' := (Entails.of_eq (M1_split m hr d)) $$ Hh
  icases Hh' with ⟨Hs, Hr⟩
  iapply (Entails.of_eq (wp_bind ..).symm)
  iapply ((K (F := F)).wp_run (D (F := F)) 𝒱 (EH := EH) (P := P (ins m hr)) κ d 0) $$ [Hst Hs Hr Hb Hts Hg]
  isplitr; · iexact Hctx
  isplitl [Hst]; · iexact Hst
  isplitl [Hs]; · iexact Hs
  iintro ⟨Hst, Hs⟩
  ihave Hs' := (Entails.of_eq (dn_held m hr d)) $$ Hs
  ihave Hh := (Entails.of_eq (StableHlo.held_sub_split (SparseCore.T d) scRefs_sub (M2 m hr d)).symm) $$ [Hs' Hr]
  · isplitl [Hs']; · iexact Hs'
    iexact Hr
  iapply (StableHlo.wp_seq 𝒱 none Set.univ d (Pipeline.ucRefs τ sig) _ opsB (fun op h => (sub_opsB op h).1) (fun op h => (sub_opsB op h).2) (M2 m hr d)) $$ [Hb Hh]
  · isplitl [Hb]; · iexact Hb
    iexact Hh
  iintro ⟨Hb, Hh⟩
  iapply (Entails.of_eq (wp_bind ..).symm)
  ihave Hst' := (Entails.of_eq (show (K (F := F)).tcSt EH d ((0 : Fin 1).val + 1) = _ from hR)) $$ Hst
  icases Hst' with ⟨Hi, Hrest⟩
  ihave #Hl := ((K (F := F)).ctx_levAts κ) $$ Hctx
  iapply (wp_region (M3 m hr) d) $$ [Hb Hg Hh Hi]
  · isplitr; · iexact Hl
    isplitl [Hb]; · iexact Hb
    isplitl [Hg]; · iexact Hg
    isplitl [Hh]; · iexact Hh
    iexact Hi
  iintro ⟨Hb, Hh, Hi⟩
  iapply (StableHlo.wp_seq 𝒱 none Set.univ d (Pipeline.ucRefs τ sig) _ opsC (fun op h => (sub_opsC op h).1) (fun op h => (sub_opsC op h).2) (M4 m hr d)) $$ [Hb Hh]
  · isplitl [Hb]; · iexact Hb
    iexact Hh
  iintro ⟨Hb, Hh⟩
  rw [wp_pure]
  imodintro
  rw [hR]
  isplitl [Hi Hrest]
  · isplitl [Hi]; · iexact Hi
    iexact Hrest
  isplitl [Hh]; · iexact Hh
  isplitl [Hb] <;> iassumption

/-! ## The launch -/

/-- Memory held is the memory there. -/
theorem held_agree (d : Dev nD) (W : Mem F) (s' : Phys nD τ sig (Elt F)) (S : Finset (DevRef τ sig)) :
    iprop(StableHlo.held (SparseCore.T d) S W ∗ SI s') ⊢ (⌜∀ b ∈ S, s'.mem.mem (d, b) = W b⌝ : sProp 𝕄) := by
  induction S using Finset.induction_on with
  | empty => iintro -; ipureintro; exact fun b hb => absurd hb (Finset.notMem_empty b)
  | insert a S ha ih =>
    unfold StableHlo.held at ih ⊢
    rw [SparseCore.bigSep_insert' ha]
    iintro ⟨⟨Ha, HS⟩, HSI⟩
    ihave H := (persistent_entails_right (SI_pointsTo_agree (st := s') (ℓ := ((d, a) : Loc nD τ sig)) (I := Finset.univ) (q := fullShare) (f := W a))) $$ [HSI Ha]
    · isplitl [HSI] <;> iassumption
    icases H with ⟨%h1, HSI, -⟩
    ihave H := ih $$ [HSI HS]
    · isplitl [HS] <;> iassumption
    icases H with %h2
    ipureintro
    intro b hb
    rcases Finset.mem_insert.mp hb with rfl | hb
    · exact funext fun i => h1 i (Finset.mem_univ i)
    · exact h2 b hb

def fq (d : Dev nD) (s' : Phys nD τ sig (Elt F)) : Prop := ∀ b ∈ Pipeline.ucRefs τ sig, s'.mem.mem (d, b) = M5 m hr d b

def QC : PUnit × MemSt nD τ sig (Elt F) → Prop :=
  fun r => (∀ d : Dev nD, ∀ b ∈ Pipeline.ucRefs τ sig, r.2.mem (d, b) = M5 m hr d b) ∧ r.2.sem = fun _ => 0

theorem run_all [∀ e, Nonempty (Elt F e)] :
    θ_run (Cert.KernelIdeal.defs (F := F)) (Cert.KernelIdeal.threads (F := F)) ⟨m, fun _ => 0, ρ⟩ (QC m hr) :=
  SparseCore.Cfg.θ_run_sc_quiescent (K := K (F := F)) (D := D (F := F)) (𝒱 := 𝒱) (EH := EH) (P := P (ins m hr)) (A := ∅) facts v₀
    (fun q hq => match q with | 0 => nomatch hq)
    (fun q _ => match q with | 0 => tileObl (ins m hr) facts)
    (fun q _ => match q with | 0 => SparseCore.Cfg.VecSplit.of_plain (vecSplit (ins m hr)))
    m ρ main (ghost (F := F)) (FIN m hr) (u₀ (F := F)) (sep_elim_left.trans (hu₀ m hr)) (hmain m ρ hr) (fq m hr)
    (fun d s' => held_agree d _ s' _) (QC m hr) (fun _ h hz => ⟨h, hz⟩)

end Cert.KernelIdeal.Run
-- ==== Proof.Frames.lean ====
/-
  The program's run, read at its arguments and results; the frames.
-/
module

public import proofs.«01_k».proof.Proof.Main
public import proofs.«01_k».proof.Defs
public import proofs.«01_k».proof.Proof.Gen.Kernel
public import proofs.«01_k».proof.Proof.Gen.ReferenceIdeal.Run
public import proofs.«01_k».proof.Proof.Gen.Pre_ids_in_range
public import proofs.«01_k».proof.Proof.Gen.Pre_ids_in_range_no_bias

@[expose] public section

noncomputable section

namespace Cert.KernelIdeal.Run

open Cert.KernelIdeal Cert.KernelIdeal.Gen
open Idealize.ShloMosaic
open Idealize.SL Idealize.SL.Sem
open Idealize.ShloMosaic.TcCoe

variable {F : FTy → Type} [FloatOps F]
variable (m : (ℓ : Loc nD τ sig) → Buf (Elt F) ℓ) (ρ : Dev nD → PrngReg) (hr : InRange m)

/-! ## The arguments are kept -/

/-- What the host operations write. -/
abbrev wA : List (Ref sig .tc) := [main_v0, main_c, main_v1, main_v2, main_v3, main_v4, main_v5]
abbrev wB : List (Ref sig .tc) := [main_cst, main_v7, main_cst_0, main_v8, main_v9, main_v10, main_v11, main_v12]
abbrev wC : List (Ref sig .tc) := [main_v14, main_v15]

theorem M1_of_not {r : Ref sig .tc} (h : r ∉ wA) (d : Dev nD) : M1 m d (rf r) = m (d, rf r) :=
  StableHlo.after_of_writes_sub (W := wA) opsA (M0 m d) (by
    simp only [List.Forall, StableHlo.nullary_writes, StableHlo.unary_writes, StableHlo.binary_writes, StableHlo.nary_writes, Finset.singleton_subset_iff]
    decide) h

theorem M3_of_not {r : Ref sig .tc} (h : r ∉ wB) (d : Dev nD) : M3 m hr d (rf r) = M2 m hr d (rf r) :=
  StableHlo.after_of_writes_sub (W := wB) opsB (M2 m hr d) (by
    simp only [List.Forall, StableHlo.nullary_writes, StableHlo.unary_writes, StableHlo.binary_writes, StableHlo.nary_writes, Finset.singleton_subset_iff]
    decide) h

theorem M5_of_not {r : Ref sig .tc} (h : r ∉ wC) (d : Dev nD) : M5 m hr d (rf r) = M4 m hr d (rf r) :=
  StableHlo.after_of_writes_sub (W := wC) opsC (M4 m hr d) (by
    simp only [List.Forall, StableHlo.nullary_writes, StableHlo.unary_writes, StableHlo.binary_writes, StableHlo.nary_writes, Finset.singleton_subset_iff]
    decide) h

/-- A buffer no host operation and neither call writes. -/
theorem M3_kept {r : Ref sig .tc} (hA : r ∉ wA) (hB : r ∉ wB) (h0 : r ≠ main_v6_0) (h1 : r ≠ main_v6_1) (d : Dev nD) : M3 m hr d (rf r) = m (d, rf r) := by
  rw [M3_of_not m hr hB, M2_of_ne m hr d (rf r) (StableHlo.devRef_ne_of_ne h0) (StableHlo.devRef_ne_of_ne h1), M1_of_not m hA]

theorem M4_of_not {r : Ref sig .tc} (h : ∀ w, r ≠ Pipeline.arrRef spec1 w) (d : Dev nD) : M4 m hr d (rf r) = M3 m hr d (rf r) :=
  Pipeline.afterRegion_of_not_arr (dats (M3 m hr) 0 d) (M3 m hr d) h

theorem M4_in (w : Fin cfg1.W) (h : (cfg1.win w).isOut = false) (d : Dev nD) :
    M4 m hr d (rf (Pipeline.arrRef spec1 w)) = M3 m hr d (rf (Pipeline.arrRef spec1 w)) :=
  (Pipeline.afterRegion_arr (dats (M3 m hr) 0 d) (M3 m hr d) launch1.win.arr_inj w).trans ((dats (M3 m hr) 0 d).arrAt_in w h _)

theorem M5_arg0 (d : Dev nD) : M5 m hr d (rf main_arg0) = m (d, rf main_arg0) := by
  rw [M5_of_not m hr (by decide), M4_of_not m hr (by decide), M3_kept m hr (by decide) (by decide) (by decide) (by decide)]
theorem M5_arg1 (d : Dev nD) : M5 m hr d (rf main_arg1) = m (d, rf main_arg1) := by
  rw [M5_of_not m hr (by decide), M4_of_not m hr (by decide), M3_kept m hr (by decide) (by decide) (by decide) (by decide)]
theorem M5_arg2 (d : Dev nD) : M5 m hr d (rf main_arg2) = m (d, rf main_arg2) := by
  rw [M5_of_not m hr (by decide)]
  exact (M4_in m hr 0 rfl d).trans (M3_kept m hr (r := main_arg2) (by decide) (by decide) (by decide) (by decide) d)
theorem M5_arg3 (d : Dev nD) : M5 m hr d (rf main_arg3) = m (d, rf main_arg3) := by
  rw [M5_of_not m hr (by decide), M4_of_not m hr (by decide), M3_kept m hr (by decide) (by decide) (by decide) (by decide)]
theorem M5_arg4 (d : Dev nD) : M5 m hr d (rf main_arg4) = m (d, rf main_arg4) := by
  rw [M5_of_not m hr (by decide)]
  exact (M4_in m hr 1 rfl d).trans (M3_kept m hr (r := main_arg4) (by decide) (by decide) (by decide) (by decide) d)
theorem M5_arg5 (d : Dev nD) : M5 m hr d (rf main_arg5) = m (d, rf main_arg5) := by
  rw [M5_of_not m hr (by decide)]
  exact (M4_in m hr 2 rfl d).trans (M3_kept m hr (r := main_arg5) (by decide) (by decide) (by decide) (by decide) d)

/-- The run: the two results at their value, the arguments kept, the counters at zero. -/
theorem run_main [∀ e, Nonempty (Elt F e)] :
    θ_run (Cert.KernelIdeal.defs (F := F)) (Cert.KernelIdeal.threads (F := F)) ⟨m, fun _ => 0, ρ⟩ (fun r => (∀ c : Dev nD,
      (r.2.mem ((c.tc : Thread nD τ).loc main_v14) = M5 m hr c (rf main_v14) ∧ r.2.mem ((c.tc : Thread nD τ).loc main_v15) = M5 m hr c (rf main_v15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run Cert.KernelIdeal.defs _ _).mono (fun _ h => ⟨fun c =>
    ⟨⟨h.1 c _ (Pipeline.devRef_mem_ucRefs rfl), h.1 c _ (Pipeline.devRef_mem_ucRefs rfl)⟩,
      (h.1 c _ (Pipeline.devRef_mem_ucRefs rfl)).trans (M5_arg0 m hr c), (h.1 c _ (Pipeline.devRef_mem_ucRefs rfl)).trans (M5_arg1 m hr c),
      (h.1 c _ (Pipeline.devRef_mem_ucRefs rfl)).trans (M5_arg2 m hr c), (h.1 c _ (Pipeline.devRef_mem_ucRefs rfl)).trans (M5_arg3 m hr c),
      (h.1 c _ (Pipeline.devRef_mem_ucRefs rfl)).trans (M5_arg4 m hr c), (h.1 c _ (Pipeline.devRef_mem_ucRefs rfl)).trans (M5_arg5 m hr c)⟩, h.2⟩)
    (run_all m ρ hr)

/-! ## The preconditions -/

theorem andi_one {a b : BitVec 1} (h : IntOp.andi a b = 1#1) : a = 1#1 ∧ b = 1#1 := by
  revert h; revert a b; decide

/-- A word read as signed between zero and a thousand is below a thousand. -/
theorem lt_of_cmp (v : BitVec 32) (h0 : IntOp.cmpi .sge v 0#32 = 1#1) (h1 : IntOp.cmpi .slt v 1000#32 = 1#1) : v.toNat < 1000 := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

theorem inRange_of_pre (m : (ℓ : Loc nD τ sig) → Buf (Elt Ideal) ℓ) (h : Cert.Pre_KernelIdeal m) : InRange (F := Ideal) m := by
  refine fun d => ⟨fun j => ?_, fun j => ?_⟩
  all_goals
    have e := congrFun (h d) j
    simp only [Pre_ids_in_range.fn, andi, cmpi, broadcastInDim, constantI] at e
    obtain ⟨e, e4⟩ := andi_one e
    obtain ⟨e, e3⟩ := andi_one e
    obtain ⟨e1, e2⟩ := andi_one e
  · exact lt_of_cmp _ e1 e2
  · exact lt_of_cmp _ e3 e4

theorem inRange_of_pre_bits (m : (ℓ : Loc nD τ sig) → Buf (Elt Bits) ℓ) (h : Cert.Pre_Kernel m) : InRange (F := Bits) m := by
  refine fun d => ⟨fun j => ?_, fun j => ?_⟩
  all_goals
    have e := congrFun (h d) j
    simp only [Pre_ids_in_range.fn, andi, cmpi, broadcastInDim, constantI] at e
    obtain ⟨e, e4⟩ := andi_one e
    obtain ⟨e, e3⟩ := andi_one e
    obtain ⟨e1, e2⟩ := andi_one e
  · exact lt_of_cmp _ e1 e2
  · exact lt_of_cmp _ e3 e4

theorem inRange_of_no_bias (m : (ℓ : Loc nD τ sig) → Buf (Elt Ideal) ℓ) (h : Cert.Pre_KernelIdeal_ids_in_range_no_bias m) : InRange (F := Ideal) m := by
  refine fun d => ⟨fun j => ?_, fun j => ?_⟩
  all_goals
    have e := congrFun (h d).1 j
    simp only [Pre_ids_in_range_no_bias.fn, andi, cmpi, broadcastInDim, constantI] at e
    obtain ⟨e, e4⟩ := andi_one e
    obtain ⟨e, e3⟩ := andi_one e
    obtain ⟨e1, e2⟩ := andi_one e
  · exact lt_of_cmp _ e1 e2
  · exact lt_of_cmp _ e3 e4

/-! ## The frames -/

/-- The two programs' bodies are one text, read at two namespaces: label by label they are the same. -/
theorem defs₀_eq : Cert.Kernel.defs₀ (F := Bits) = Cert.KernelIdeal.defs₀ (F := Bits) := by
  funext q ℓ a
  cases q <;> fin_cases ℓ <;> rfl

theorem defs_eq : Cert.Kernel.defs (F := Bits) = Cert.KernelIdeal.defs (F := Bits) :=
  congrArg (fun d => Cert.KernelIdeal.sc.defs (Pipeline.defs Cert.KernelIdeal.pcfgs d)) defs₀_eq

/-- The kernel as printed runs to quiescence on ids in range, and keeps its arguments. -/
theorem frame_kernel : Cert.quiescent_Kernel := by
  intro m ρ h
  rw [defs_eq]
  exact (θ_run Cert.KernelIdeal.defs _ _).mono (fun _ h => ⟨fun c => (h.1 c).2, h.2⟩) (run_main (F := Bits) m ρ (inRange_of_pre_bits m h))

theorem frame_ideal : Cert.quiescent_KernelIdeal := fun m ρ h =>
  (θ_run Cert.KernelIdeal.defs _ _).mono (fun _ h => ⟨fun c => (h.1 c).2, h.2⟩) (run_main (F := Ideal) m ρ (inRange_of_pre m h))

theorem frame_no_bias : Cert.quiescent_KernelIdeal_pre_ids_in_range_no_bias := fun m ρ h =>
  (θ_run Cert.KernelIdeal.defs _ _).mono (fun _ h => ⟨fun c => (h.1 c).2, h.2⟩) (run_main (F := Ideal) m ρ (inRange_of_no_bias m h))

/-- The reference is a list of host operations; it declares no semaphore. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem frame_reference_no_bias : Cert.quiescent_ReferenceIdeal_pre_ids_in_range_no_bias := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.KernelIdeal.Run
-- ==== Proof.Product.lean ====
/-
  The TensorCore call's matrix and products over the extended reals. Row `(n, f)` of the matrix has the weight `vcol f` at column
  `n`, twice the second bias at column 208, and zero elsewhere; its product with a count table is therefore the weight times the
  table's row `n`, plus twice the bias times its row 208.
-/
module

public import proofs.«01_k».proof.Proof.Expand
public import Idealize.ShloMosaic.Lib.MatmulPlain
public import Idealize.ShloMosaic.Lib.IdealHost
public import Idealize.ShloMosaic.Lib.ValueIdx
public import Idealize.ShloMosaic.Lib.ValueLayout
public import Idealize.ShloMosaic.Lib.Pipeline.Value
public import Mathlib.Tactic.NormNum

@[expose] public section

noncomputable section

namespace Cert.KernelIdeal.Run

open Cert.KernelIdeal Cert.KernelIdeal.Gen
open Idealize.ShloMosaic Idealize.ShloMosaic.ValueIdx

/-- The second layer applied to the positive part of the first layer's weights. -/
def vcol (W1 : S1x64.Idx → EReal) (W2 : S64x64.Idx → EReal) (f : Fin 64) : EReal := ∑ k : Fin 64, max (W1 (ix2 0 k)) 0 * W2 (ix2 k f)

/-- One where the condition holds, zero where it does not. -/
def ind (p : Prop) [Decidable p] : EReal := if p then 1 else 0

theorem two_f32 : Ideal.ofBits .f32 0x40000000#32 = 2 := by
  simp [Ideal.ofBits, Ideal.ieee]
  have e : (8388608 * (2 ^ 22)⁻¹ : ℝ) = 2 := by norm_num
  rw [← EReal.coe_mul, e]
  rfl

theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A comparison for equality, widened and read as a float. -/
theorem ind_word {a b : ℕ} (ha : a < 2 ^ 32) (hb : b < 2 ^ 32) :
    (((IntOp.cmpi .eq (BitVec.ofNat 32 a) (BitVec.ofNat 32 b)).setWidth 32).toInt : ℝ) = ((ind (a = b)).toReal : ℝ) := by
  unfold ind IntOp.cmpi
  by_cases h : a = b
  · subst h; simp
  · have : ¬ BitVec.ofNat 32 a = BitVec.ofNat 32 b := fun e => h ((ofNat_eq_iff ha hb).mp e)
    rw [if_neg h, beq_eq_false_iff_ne.mpr this]
    simp

theorem ind_coe (p : Prop) [Decidable p] : (((ind p).toReal : ℝ) : EReal) = ind p := by
  unfold ind; split <;> simp

variable (W1 : S1x64.Idx → Elt Ideal .f32) (W2 : S64x64.Idx → Elt Ideal .f32) (b2 : S64.Idx → Elt Ideal .f32)

/-- A vector of 64 spread over the rows and columns of the matrix. -/
theorem spread_apply (x : S64.Idx → EReal) (n : Fin 200) (f : Fin 64) (c : Fin 256) :
    broadcastTo S200x64x256 (shapeCast S1x64x1 x shapeCasts_S64_S1x64x1) broadcasts_S1x64x1_S200x64x256 (ix3 n f c) = x (ix1 f) := by
  rw [broadcastTo_apply _ _ _ (ix3 0 f 0) (fun a => by fin_cases a <;> rfl)]
  refine shapeCast_apply x _ _ _ ?_
  rw [Shape.rowMajor_val_three, Shape.rowMajor_val_one]
  show f.val = (0 * 64 + f.val) * 1 + 0
  omega

/-- A table over rows and columns spread over the 64 features. -/
theorem over_apply (x : S200x1x256.Idx → EReal) (n : Fin 200) (f : Fin 64) (c : Fin 256) :
    broadcastTo S200x64x256 x broadcasts_S200x1x256_S200x64x256 (ix3 n f c) = x (ix3 n 0 c) :=
  broadcastTo_apply _ _ _ (ix3 n 0 c) (fun a => by fin_cases a <;> rfl)

theorem built_apply (n : Fin 200) (f : Fin 64) (c : Fin 256) :
    built (F := Ideal) W1 W2 b2 (ix3 n f c) = ind (n.val = c.val) * vcol W1 W2 f + ind (c.val = 208) * (2 * b2 (ix1 f)) := by
  have hn := n.isLt
  have hc := c.isLt
  have ev : (matmul (F := Ideal) (φ₁ := .f32) (φ₂ := .f32) dot_S1x64_S64x64_S1x64_1_0_0_1_n_n none (maximumf W1 (broadcast S1x64 (Scalar.ofBits .f32 0x00000000#32)))
      W2 (constant S1x64 .f32 0x00000000#32) : FVec Ideal S1x64 .f32) (ix2 0 f) = vcol W1 W2 f := by
    refine (Ideal.matmul_plain_apply none _ _ _ 0 f).trans ?_
    show Ideal.ofBits .f32 0x00000000#32 + ∑ k : Fin 64, max (W1 (ix2 0 k)) (Ideal.ofBits .f32 0x00000000#32) * W2 (ix2 k f) = _
    rw [Ideal.ofBits_zero_f32, zero_add]
    rfl
  unfold built k1_pay1
  rw [shapeCast_self]
  rw [addf_apply, mulf_apply, mulf_apply, spread_apply, spread_apply, over_apply, over_apply]
  congr 1
  · congr 1
    · show (((((IntOp.cmpi .eq (BitVec.ofNat 32 (0 * 200 + n.val)) (BitVec.ofNat 32 (0 * 256 + c.val))).setWidth 32).toInt : ℝ) : EReal)) = _
      simp only [Nat.zero_mul, Nat.zero_add]
      rw [ind_word (by omega) (by omega), ind_coe]
    · exact (shapeCast_1a_a_apply _ _ f).trans ev
  · congr 1
    · show (((((IntOp.cmpi .eq (BitVec.ofNat 32 (0 * 256 + c.val)) (BitVec.ofNat 32 208)).setWidth 32).toInt : ℝ) : EReal)) = _
      rw [Nat.zero_mul, Nat.zero_add, ind_word (by omega) (by omega), ind_coe]
    · show Ideal.ofBits .f32 0x40000000#32 * b2 (ix1 f) = _
      rw [two_f32]

/-- The product of a slab of eight rows with a count table, entry by entry. -/
theorem prodA_apply (i : grid1.Coords) (A : S200x64x256.Idx → Elt Ideal .f32) (N : S256x1024.Idx → Elt Ideal .f32)
    (r : Fin 8) (f : Fin 64) (b : Fin 1024) (n : Fin 200) (hn : n.val = 8 * (i 0).val + r.val) :
    prodA (F := Ideal) i A N (ix3 r f b) = ∑ c : Fin 256, A (ix3 n f c) * N (ix2 c b) := by
  have hr := r.isLt
  have hf := f.isLt
  have hq : 64 * r.val + f.val < 512 := by omega
  unfold prodA k1_pay3 k1_pay2
  rw [shapeCast_self]
  rw [shapeCast_apply _ _ (ix3 r f b) (ix2 ⟨64 * r.val + f.val, hq⟩ b) (by
    rw [Shape.rowMajor_val_three, Shape.rowMajor_val_two]
    show (64 * r.val + f.val) * 1024 + b.val = (r.val * 64 + f.val) * 1024 + b.val
    omega)]
  refine (Ideal.matmul_plain_apply none _ _ _ _ b).trans ?_
  show Ideal.ofBits .f32 0x00000000#32 + _ = _
  rw [Ideal.ofBits_zero_f32, zero_add]
  refine Finset.sum_congr rfl fun c _ => ?_
  congr 1
  rw [shapeCast_apply _ _ (ix2 ⟨64 * r.val + f.val, hq⟩ c) (ix3 r f c) (by
    rw [Shape.rowMajor_val_three, Shape.rowMajor_val_two]
    show (r.val * 64 + f.val) * 256 + c.val = (64 * r.val + f.val) * 256 + c.val
    omega)]
  refine congrArg A (funext fun a => Fin.ext ?_)
  show k1_off1 i a + 1 * ((ix3 r f c : S8x64x256.Idx) a).val = _
  rw [k1_off1_eq]
  fin_cases a
  · show 8 * (i 0).val + 1 * r.val = n.val; omega
  · show 0 + 1 * f.val = f.val; omega
  · show 0 + 1 * c.val = c.val; omega

theorem prodB_eq (i : grid1.Coords) (A : S200x64x256.Idx → Elt Ideal .f32) (N : S256x1024.Idx → Elt Ideal .f32) :
    prodB (F := Ideal) i A N = prodA i A N := rfl

/-- A sum over the matrix's columns has two terms: the row's own column, and the bias's. -/
theorem sum_cols (n : Fin 200) (v w : EReal) (g : Fin 256 → EReal) :
    ∑ c : Fin 256, (ind (n.val = c.val) * v + ind (c.val = 208) * w) * g c = v * g (n.castLE (by decide)) + w * g 208 := by
  have hn := n.isLt
  have e : ∀ c : Fin 256, (ind (n.val = c.val) * v + ind (c.val = 208) * w) * g c
      = (if c = n.castLE (by decide) then v * g (n.castLE (by decide)) else 0) + if c = 208 then w * g 208 else 0 := by
    intro c
    by_cases h1 : c = n.castLE (by decide)
    · subst h1
      have h2 : ¬ (n.castLE (by decide) : Fin 256) = 208 := fun h => by
        have := congrArg Fin.val h
        have h' : n.val = 208 := this
        omega
      have h3 : ¬ n.val = 208 := by omega
      simp [ind, h2, h3]
    · have h1' : ¬ n.val = c.val := fun h => h1 (Fin.ext h.symm)
      by_cases h2 : c = 208
      · subst h2
        have h3 : ¬ n.val = 208 := by omega
        simp [ind, h1, h3]
      · have h2' : ¬ c.val = 208 := fun h => h2 (Fin.ext h)
        simp [ind, h1, h1', h2, h2']
  rw [Finset.sum_congr rfl fun c _ => e c, Finset.sum_add_distrib]
  simp

end Cert.KernelIdeal.Run
-- ==== Proof.Counts.lean ====
/-
  A tile's counts over the extended reals: a table that is raised by one at each word of a row holds, at each entry, how many of
  the row's words name it; lowered again at the same words it is back at zero, so every row starts from cleared tables. A count
  row's entry is then the number of times its word occurs in the two rows of words.
-/
module

public import proofs.«01_k».proof.Proof.Tile
public import Idealize.ShloMosaic.Lib.IdealHost
public import Idealize.ShloMosaic.Lib.ValueIdx

@[expose] public section

noncomputable section

namespace Cert.KernelIdeal.Run

open Cert.KernelIdeal Cert.KernelIdeal.Gen
open Idealize.ShloMosaic Idealize.ShloMosaic.ValueIdx

/-! ## One table -/

/-- Adding the real `a` at the places `pos k` of a list, one after the other, adds to each entry `a` as often as it is named. -/
theorem foldl_count {β : Type} (st : (S1008.Idx → EReal) → β → S1008.Idx → EReal) (pos : β → ℕ) (a : ℝ)
    (hst : ∀ g k j, st g k j = if pos k = (j 0).val then g j + (a : EReal) else g j) :
    ∀ (ks : List β) (T : S1008.Idx → EReal) (t : S1008.Idx → ℝ), (∀ j, T j = (t j : EReal)) →
      ∀ j, ks.foldl st T j = ((t j + a * (ks.countP fun k => decide (pos k = (j 0).val) : ℕ) : ℝ) : EReal)
  | [], T, t, hT, j => by simp [hT]
  | k :: ks, T, t, hT, j => by
    have ih := foldl_count st pos a hst ks (st T k) (fun j => if pos k = (j 0).val then t j + a else t j) (fun j => by
      rw [hst]; split
      · rw [hT, EReal.coe_add]
      · exact hT j) j
    refine ih.trans (congrArg _ ?_)
    rw [List.countP_cons]
    by_cases h : pos k = (j 0).val
    · simp only [h, if_true, decide_true]
      push_cast
      ring
    · simp [h]

/-- Lane `k` of a group. -/
def lane (k : Fin 16) : S16.Idx := Shape.ofLane (d := ![16]) k

/-- How many of a group's words are `v`. -/
def hits (w : Words) (v : ℕ) : ℕ := (List.finRange 16).countP fun k => decide ((w.1 (lane k)).toNat = v)

theorem storeIdx_real (val : FVec Ideal S16 .f32) (a : ℝ) (hv : ∀ x, val x = (a : EReal)) (w : Words) (T : S1008.Idx → Elt Ideal .f32)
    (t : S1008.Idx → ℝ) (hT : ∀ j, T j = (t j : EReal)) (j : S1008.Idx) :
    storeIdx (F := Ideal) (e := .f32) T ![w.1] val (fun _ => 1#1) true (k0_idx1_inb w.1 w.2) j = ((t j + a * (hits w (j 0).val : ℕ) : ℝ) : EReal) := by
  refine foldl_count _ (fun k => (w.1 (lane k)).toNat) a (fun g k j => ?_) (List.finRange 16) T t hT j
  refine (congrFun (if_pos (rfl : (1#1 : BitVec 1) = 1)) j).trans ?_
  by_cases h : (w.1 (lane k)).toNat = (j 0).val
  · have hj : idxAt ![w.1] (k0_idx1_inb w.1 w.2) (lane k) = j := by
      funext b; refine Fin.ext ?_; rw [Fin.eq_zero b]; exact h
    refine (if_pos (fun b => congrArg (fun i : S1008.Idx => (i b).val) hj.symm)).trans ?_
    rw [if_pos h]
    show g (idxAt ![w.1] (k0_idx1_inb w.1 w.2) (lane k)) + val (lane k) = _
    rw [hj, hv]
  · rw [if_neg h]
    exact if_neg fun hb => h (hb 0).symm

theorem scat_real (val : FVec Ideal S16 .f32) (a : ℝ) (hv : ∀ x, val x = (a : EReal)) :
    ∀ (ws : List Words) (T : S1008.Idx → Elt Ideal .f32) (t : S1008.Idx → ℝ), (∀ j, T j = (t j : EReal)) →
      ∀ j, scat (F := Ideal) val ws T j = ((t j + a * ((ws.map fun w => hits w (j 0).val).sum : ℕ) : ℝ) : EReal)
  | [], T, t, hT, j => by simp [scat, hT]
  | w :: ws, T, t, hT, j => by
    have ih := scat_real val a hv ws _ _ (storeIdx_real val a hv w T t hT) j
    refine ih.trans (congrArg _ ?_)
    rw [List.map_cons, List.sum_cons]
    push_cast
    ring

theorem one16_real (x : S16.Idx) : (one16 (F := Ideal)) x = ((1 : ℝ) : EReal) := by
  show Ideal.ofBits .f32 0x3F800000#32 = _
  simp

theorem neg16_real (x : S16.Idx) : (negv (one16 (F := Ideal)) : FVec Ideal S16 .f32) x = ((-1 : ℝ) : EReal) := by
  show Ideal.ofBits .f32 0x00000000#32 - Ideal.ofBits .f32 0x3F800000#32 = _
  simp

variable {X Y : S32x208.Idx → Elt Ideal .i32}

/-- How many words of row `r` are `v`, group by group. -/
def rowHits (h : Named X) (r v : ℕ) : ℕ := (((offs r).map (grp h)).map fun w => hits w v).sum

/-- Every row starts from a cleared table. -/
theorem tab_zero (h : Named X) (half : ℕ) : ∀ n j, tab h half n j = ((0 : ℝ) : EReal)
  | 0, j => by
    show Ideal.ofBits .f32 0x00000000#32 = _
    simp
  | n + 1, j => by
    have e1 := scat_real (one16 (F := Ideal)) 1 one16_real ((offs (2 * n + half)).map (grp h)) (tab h half n) (fun _ => 0) (tab_zero h half n)
    have e2 := scat_real (negv (one16 (F := Ideal))) (-1) neg16_real ((offs (2 * n + half)).map (grp h)) _ _ e1 j
    refine e2.trans (congrArg _ ?_)
    ring

/-- A table as its row has raised it holds the row's counts. -/
theorem tabR_real (h : Named X) (r : ℕ) (j : S1008.Idx) : tabR h r j = ((rowHits h r (j 0).val : ℝ) : EReal) := by
  have e1 := scat_real (one16 (F := Ideal)) 1 one16_real ((offs r).map (grp h)) (tab h (r % 2) (r / 2)) (fun _ => 0) (tab_zero h _ _) j
  refine e1.trans (congrArg _ ?_)
  rw [rowHits]
  ring

/-! ## A row's groups together -/

/-- Word `p` of row `r`. -/
abbrev wAt (X : S32x208.Idx → BitVec 32) (r : Fin 32) (p : Fin 208) : ℕ := (X (ix2 r p)).toNat

theorem grp_word (h : Named X) (r : Fin 32) (c : Fin 13) (k : Fin 16) :
    ((grp h (offAt r.val c)).1 (lane k)).toNat = wAt X r (finProdFinEquiv (c, k)) := by
  have hc := c.isLt
  have hk := k.isLt
  set j : S32x208.Idx := ix2 r (finProdFinEquiv (c, k)) with hj
  have e0 : (j 0).val = r.val := rfl
  have e1 : (j 1).val = k.val + 16 * c.val := rfl
  have ec : cg j = c := Fin.ext (by show (j 1).val / 16 = c.val; omega)
  have el : ln j = lane k := by
    unfold ln
    congr 1
    refine Fin.ext ?_
    show (j 1).val % 16 = k.val
    omega
  have := wordsAt_ln X j
  rw [e0, ec, el] at this
  exact congrArg BitVec.toNat this

theorem rowHits_eq (h : Named X) (r : Fin 32) (v : ℕ) : rowHits h r.val v = (Finset.univ.filter fun p : Fin 208 => wAt X r p = v).card := by
  have e1 : ∀ c : Fin 13, hits (grp h (offAt r.val c)) v = ∑ k : Fin 16, if wAt X r (finProdFinEquiv (c, k)) = v then 1 else 0 := by
    intro c
    simp only [hits, grp_word]
    rw [← Finset.card_filter, List.countP_eq_length_filter, ← List.toFinset_card_of_nodup ((List.nodup_finRange 16).filter _)]
    congr 1
    ext k
    simp
  rw [Finset.card_filter, ← Equiv.sum_comp (finProdFinEquiv (m := 13) (n := 16)), Fintype.sum_prod_type]
  rw [rowHits, offs, List.map_map, List.map_map]
  rw [← List.ofFn_eq_map, List.sum_ofFn]
  exact Finset.sum_congr rfl fun c _ => e1 c

/-- A count row's entry: how often its word occurs in its row of each of the two arrays. -/
theorem cnt_real (h : Named X) (h' : Named Y) (j : S32x208.Idx) :
    cnt h h' j = (((Finset.univ.filter fun p : Fin 208 => wAt X (j 0) p = (X j).toNat).card : ℝ) : EReal)
      + (((Finset.univ.filter fun p : Fin 208 => wAt Y (j 0) p = (X j).toNat).card : ℝ) : EReal) := by
  show tabR h (j 0).val (cell h j) + tabR h' (j 0).val (cell h j) = _
  rw [tabR_real, tabR_real, rowHits_eq h (j 0), rowHits_eq h' (j 0)]
  rfl

end Cert.KernelIdeal.Run
-- ==== Proof.Occ.lean ====
/-
  The two count arrays of the SparseCore call over the extended reals: at an id's place, how often the id occurs in its row of
  each id array. The eight padding ids of a row are none of the ids in range, so they are never counted.
-/
module

public import proofs.«01_k».proof.Proof.Main
public import proofs.«01_k».proof.Proof.Counts

@[expose] public section

noncomputable section

namespace Cert.KernelIdeal.Run

open Cert.KernelIdeal Cert.KernelIdeal.Gen
open Idealize.ShloMosaic Idealize.ShloMosaic.ValueIdx

/-- How often the id `v` occurs in row `b` of an id array. -/
def occ (x : S1024x200.Idx → BitVec 32) (b : Fin 1024) (v : ℕ) : ℕ := (Finset.univ.filter fun p : Fin 200 => (x (ix2 b p)).toNat = v).card

theorem occ_padded (x : S1024x200.Idx → Elt Ideal .i32) (b : Fin 1024) (v : ℕ) (hv : v < 1000) :
    (Finset.univ.filter fun p : Fin 208 => wAt (rowsB (b.val / 32) (padded (F := Ideal) x)) ⟨b.val % 32, Nat.mod_lt _ (by decide)⟩ p = v).card = occ x b v := by
  have hb := b.isLt
  have key : ∀ p : Fin 208, rowsB (b.val / 32) (padded (F := Ideal) x) (ix2 ⟨b.val % 32, Nat.mod_lt _ (by decide)⟩ p) = padded (F := Ideal) x (ix2 b p) := by
    intro p
    refine congrArg (padded (F := Ideal) x) (Shape.idx_ext₂ ?_ rfl)
    show (32 * (b.val / 32) + b.val % 32) % 1024 = b.val
    omega
  simp only [wAt, key]
  symm
  refine Finset.card_bij (fun p _ => p.castLE (by decide)) ?_ ?_ ?_
  · intro p hp
    simp only [Finset.mem_filter, Finset.mem_univ, true_and] at hp ⊢
    rw [padded_id (F := Ideal) x (ix2 b (p.castLE (by decide))) p.isLt]
    refine Eq.trans (congrArg (fun i => (x i : BitVec 32).toNat) ?_) hp
    exact Shape.idx_ext₂ rfl rfl
  · intro p _ q _ h
    exact Fin.ext (congrArg (fun z : Fin 208 => z.val) h)
  · intro p hp
    simp only [Finset.mem_filter, Finset.mem_univ, true_and] at hp
    have hlt : p.val < 200 := by
      by_contra hge
      have := padded_pad (F := Ideal) x (ix2 b p) (by show 200 ≤ p.val; omega)
      have h' : ((padded (F := Ideal) x (ix2 b p) : BitVec 32)).toNat = 800 + p.val := this
      omega
    refine ⟨⟨p.val, hlt⟩, ?_, Fin.ext rfl⟩
    simp only [Finset.mem_filter, Finset.mem_univ, true_and]
    rw [padded_id (F := Ideal) x (ix2 b p) hlt] at hp
    refine Eq.trans (congrArg (fun i => (x i : BitVec 32).toNat) ?_) hp
    exact Shape.idx_ext₂ rfl rfl

/-- A count array at the place of an id: its occurrences in its row of the one array, and of the other. -/
theorem cntA_real (x y : S1024x200.Idx → Elt Ideal .i32) (hx : ∀ j, (x j : BitVec 32).toNat < 1000)
    (h : NamedA (padded (F := Ideal) x)) (h' : NamedA (padded (F := Ideal) y)) (b : Fin 1024) (n : Fin 200) :
    cntA h h' (ix2 b (n.castLE (by decide))) = ((occ x b (x (ix2 b n) : BitVec 32).toNat : ℝ) : EReal) + ((occ y b (x (ix2 b n) : BitVec 32).toNat : ℝ) : EReal) := by
  have hb := b.isLt
  have e : rowsB (b.val / 32) (padded (F := Ideal) x) (inB (ix2 b (n.castLE (by decide)))) = x (ix2 b n) := by
    refine (congrArg (padded (F := Ideal) x) (Shape.idx_ext₂ ?_ rfl : rowIdx (b.val / 32) _ = ix2 b (n.castLE (by decide)))).trans ?_
    · show (32 * (b.val / 32) + b.val % 32) % 1024 = b.val
      omega
    · rw [padded_id (F := Ideal) x (ix2 b (n.castLE (by decide))) n.isLt]
      exact congrArg x (Shape.idx_ext₂ rfl rfl)
  have ec := cnt_real (h.rows (b.val / 32)) (h'.rows (b.val / 32)) (inB (ix2 b (n.castLE (by decide))))
  rw [e] at ec
  refine Eq.trans ec ?_
  have e1 := occ_padded x b _ (hx (ix2 b n))
  have e2 := occ_padded y b _ (hx (ix2 b n))
  rw [← e1, ← e2]
  rfl

end Cert.KernelIdeal.Run
-- ==== Proof.Results.lean ====
/-
  The kernel's two results over the extended reals, entry by entry: the second layer's column, as often as the entry's id
  occurs in its row of the two id arrays, plus twice the second bias.
-/
module

public import proofs.«01_k».proof.Proof.Frames
public import proofs.«01_k».proof.Proof.Product
public import proofs.«01_k».proof.Proof.Occ
public import Idealize.ShloMosaic.Lib.Pipeline.ValueKit.Geometry

@[expose] public section

noncomputable section

namespace Cert.KernelIdeal.Run

open Cert.KernelIdeal Cert.KernelIdeal.Gen
open Idealize.ShloMosaic Idealize.ShloMosaic.ValueIdx
open Idealize.ShloMosaic.TcCoe

/-! ## The count tables the TensorCore multiplies by -/

/-- A count array transposed, with a row of ones and rows of zeros under it. -/
def stacked (x : S1024x208.Idx → Elt Ideal .f32) : S256x1024.Idx → Elt Ideal .f32 :=
  concatenate S256x1024 0 [⟨S208x1024, transpose S208x1024 [1, 0] x transposes_S1024x208_S208x1024_1_0⟩,
    ⟨S1x1024, broadcastInDim S1x1024 ![] bcast_S_S1x1024 (constant (F := Ideal) S_ .f32 0x3F800000#32)⟩,
    ⟨S47x1024, broadcastInDim S47x1024 ![] bcast_S_S47x1024 (constant (F := Ideal) S_ .f32 0x00000000#32)⟩] concatenates_S208x1024_S1x1024_S47x1024_S256x1024_d0

theorem stacked_count (x : S1024x208.Idx → Elt Ideal .f32) (n : Fin 200) (b : Fin 1024) :
    stacked x (ix2 (n.castLE (by decide)) b) = x (ix2 b (n.castLE (by decide))) := by
  unfold stacked
  refine (concatenate_apply_piece (0 : Fin S256x1024.rank) _ _ (ix2 (n.castLE (by decide)) b) 0 (by simp) S208x1024 _ rfl rfl 0 rfl
    (ix2 (n.castLE (by decide)) b) (fun a ha => by
      fin_cases a
      · exact absurd rfl ha
      · rfl) (show 0 + n.val = n.val by omega)).trans ?_
  exact transpose_apply _ x _ _ _ (fun a => by fin_cases a <;> rfl)

theorem stacked_one (x : S1024x208.Idx → Elt Ideal .f32) (b : Fin 1024) : stacked x (ix2 208 b) = 1 := by
  unfold stacked
  refine (concatenate_apply_piece (0 : Fin S256x1024.rank) _ _ (ix2 208 b) 1 (by simp) S1x1024 _ rfl rfl 208 rfl
    (ix2 0 b) (fun a ha => by
      fin_cases a
      · exact absurd rfl ha
      · rfl) rfl).trans ?_
  exact Ideal.ofBits_one_f32

variable (m : (ℓ : Loc nD τ sig) → Buf (Elt Ideal) ℓ) (hr : InRange m)

theorem M3_v10 (d : Dev nD) : M3 m hr d (rf main_v10) = stacked (cntA ((ins m hr).hX d) ((ins m hr).hY d)) := by
  unfold M3 opsB
  simp (discharger := decide) only [StableHlo.after_cons, StableHlo.after_nil, StableHlo.nullary_result', StableHlo.unary_result', StableHlo.nary_result',
    StableHlo.nullary_result_ne', StableHlo.unary_result_ne', StableHlo.nary_result_ne']
  show stacked (M2 m hr d (rf main_v6_0)) = _
  rw [M2_v6_0]

theorem M3_v12 (d : Dev nD) : M3 m hr d (rf main_v12) = stacked (cntA ((ins m hr).hY d) ((ins m hr).hX d)) := by
  unfold M3 opsB
  simp (discharger := decide) only [StableHlo.after_cons, StableHlo.after_nil, StableHlo.nullary_result', StableHlo.unary_result', StableHlo.nary_result',
    StableHlo.nullary_result_ne', StableHlo.unary_result_ne', StableHlo.nary_result_ne']
  show stacked (M2 m hr d (rf main_v6_1)) = _
  rw [M2_v6_1]

/-! ## The two arrays after the pipeline -/

/-- A product of the whole matrix with a count table. -/
def whole (A : S200x64x256.Idx → Elt Ideal .f32) (N : S256x1024.Idx → Elt Ideal .f32) : S200x64x1024.Idx → Elt Ideal .f32 :=
  fun j => ∑ c : Fin 256, A (ix3 (j 0) (j 1) c) * N (ix2 c (j 2))

/-- A block of the product is the product of the matrix's slab. -/
theorem slab_apply (i : grid1.Coords) (A : S200x64x256.Idx → Elt Ideal .f32) (N : S256x1024.Idx → Elt Ideal .f32) (y : S8x64x1024.Idx) (j : S200x64x1024.Idx)
    (h0 : (j 0).val = 8 * (i 0).val + (y 0).val) (h1 : (j 1).val = (y 1).val) (h2 : (j 2).val = (y 2).val) :
    prodA (F := Ideal) i A N y = whole A N j := by
  have e1 : j 1 = y 1 := Fin.ext h1
  have e2 : j 2 = y 2 := Fin.ext h2
  rw [eq_ix3 y]
  refine (prodA_apply i A N (y 0) (y 1) (y 2) (j 0) h0).trans ?_
  unfold whole
  rw [e1, e2]

theorem index1_5 : ∀ t : Fin grid1.N, win1_5.index t = ![(grid1.coords t 0).val, 0, 0] := by decide +kernel
theorem index1_6 : ∀ t : Fin grid1.N, win1_6.index t = ![(grid1.coords t 0).val, 0, 0] := by decide +kernel

variable (W : Dev nD → Mem Ideal)

theorem arr_5 (d : Dev nD) : (dats W 0 d).arrAt 5 cfg1.N = whole (builtAt (W d)) (W d (rf main_v10)) := by
  refine (dats W 0 d).arrAt_eq_of_covers 5 _ (by decide +kernel) fun t hf y => ?_
  refine slab_apply (grid1.coords t) (builtAt (W d)) (W d (rf main_v10)) y _ ?_ ?_ ?_
  all_goals
    blk_simp [index1_5]
  all_goals omega

theorem arr_6 (d : Dev nD) : (dats W 0 d).arrAt 6 cfg1.N = whole (builtAt (W d)) (W d (rf main_v12)) := by
  refine (dats W 0 d).arrAt_eq_of_covers 6 _ (by decide +kernel) fun t hf y => ?_
  refine slab_apply (grid1.coords t) (builtAt (W d)) (W d (rf main_v12)) y _ ?_ ?_ ?_
  all_goals
    blk_simp [index1_6]
  all_goals omega

theorem M4_v13_0 (d : Dev nD) : M4 m hr d (rf main_v13_0) = whole (builtAt (M3 m hr d)) (M3 m hr d (rf main_v10)) :=
  (Pipeline.afterRegion_arr (dats (M3 m hr) 0 d) (M3 m hr d) launch1.win.arr_inj 5).trans (arr_5 (M3 m hr) d)

theorem M4_v13_1 (d : Dev nD) : M4 m hr d (rf main_v13_1) = whole (builtAt (M3 m hr d)) (M3 m hr d (rf main_v12)) :=
  (Pipeline.afterRegion_arr (dats (M3 m hr) 0 d) (M3 m hr d) launch1.win.arr_inj 6).trans (arr_6 (M3 m hr) d)

/-- The batch axis first. -/
def turned (x : S200x64x1024.Idx → Elt Ideal .f32) : S1024x200x64.Idx → Elt Ideal .f32 :=
  transpose S1024x200x64 [2, 0, 1] x transposes_S200x64x1024_S1024x200x64_2_0_1

theorem turned_apply (x : S200x64x1024.Idx → Elt Ideal .f32) (b : Fin 1024) (n : Fin 200) (f : Fin 64) : turned x (ix3 b n f) = x (ix3 n f b) :=
  transpose_apply _ x _ _ _ (fun a => by fin_cases a <;> rfl)

theorem M5_v14 (d : Dev nD) : M5 m hr d (rf main_v14) = turned (M4 m hr d (rf main_v13_0)) := by
  unfold M5 opsC
  simp (discharger := decide) only [StableHlo.after_cons, StableHlo.after_nil, StableHlo.unary_result', StableHlo.unary_result_ne']
  rfl

theorem M5_v15 (d : Dev nD) : M5 m hr d (rf main_v15) = turned (M4 m hr d (rf main_v13_1)) := by
  unfold M5 opsC
  simp (discharger := decide) only [StableHlo.after_cons, StableHlo.after_nil, StableHlo.unary_result', StableHlo.unary_result_ne']
  rfl

/-! ## The results at an entry -/

/-- An entry of a result: `k` copies of the second layer's column, and twice the second bias. -/
def entry (W1 : S1x64.Idx → EReal) (W2 : S64x64.Idx → EReal) (b2 : S64.Idx → EReal) (k : EReal) (f : Fin 64) : EReal :=
  vcol W1 W2 f * k + 2 * b2 (ix1 f)

theorem whole_apply (W1 : S1x64.Idx → Elt Ideal .f32) (W2 : S64x64.Idx → Elt Ideal .f32) (b2 : S64.Idx → Elt Ideal .f32) (x : S1024x208.Idx → Elt Ideal .f32)
    (b : Fin 1024) (n : Fin 200) (f : Fin 64) :
    turned (whole (built W1 W2 b2) (stacked x)) (ix3 b n f) = entry W1 W2 b2 (x (ix2 b (n.castLE (by decide)))) f := by
  rw [turned_apply]
  refine (Finset.sum_congr rfl fun c _ => congrArg (· * stacked x (ix2 c b)) (built_apply W1 W2 b2 n f c)).trans ?_
  rw [sum_cols n (vcol W1 W2 f) (2 * b2 (ix1 f)) fun c => stacked x (ix2 c b)]
  rw [stacked_count, stacked_one, mul_one]
  rfl

theorem builtAt_M3 (d : Dev nD) : builtAt (M3 m hr d) = built (F := Ideal) (m ((d.tc : Thread nD τ).loc main_arg2)) (m ((d.tc : Thread nD τ).loc main_arg4)) (m ((d.tc : Thread nD τ).loc main_arg5)) := by
  unfold builtAt
  rw [M3_kept m hr (r := main_arg2) (by decide) (by decide) (by decide) (by decide), M3_kept m hr (r := main_arg4) (by decide) (by decide) (by decide) (by decide),
    M3_kept m hr (r := main_arg5) (by decide) (by decide) (by decide) (by decide)]

theorem v14_apply (d : Dev nD) (b : Fin 1024) (n : Fin 200) (f : Fin 64) (x y : S1024x200.Idx → BitVec 32)
    (hx : x = m ((d.tc : Thread nD τ).loc main_arg0)) (hy : y = m ((d.tc : Thread nD τ).loc main_arg1)) :
    (M5 m hr d (rf main_v14) : S1024x200x64.Idx → EReal) (ix3 b n f)
      = entry (m ((d.tc : Thread nD τ).loc main_arg2)) (m ((d.tc : Thread nD τ).loc main_arg4)) (m ((d.tc : Thread nD τ).loc main_arg5))
          (((occ x b (x (ix2 b n)).toNat : ℝ) : EReal) + ((occ y b (x (ix2 b n)).toNat : ℝ) : EReal)) f := by
  subst hx hy
  rw [M5_v14, M4_v13_0, M3_v10, builtAt_M3]
  refine (whole_apply _ _ _ _ b n f).trans ?_
  congr 1
  exact cntA_real _ _ (hr d).1 _ _ b n

theorem v15_apply (d : Dev nD) (b : Fin 1024) (n : Fin 200) (f : Fin 64) (x y : S1024x200.Idx → BitVec 32)
    (hx : x = m ((d.tc : Thread nD τ).loc main_arg0)) (hy : y = m ((d.tc : Thread nD τ).loc main_arg1)) :
    (M5 m hr d (rf main_v15) : S1024x200x64.Idx → EReal) (ix3 b n f)
      = entry (m ((d.tc : Thread nD τ).loc main_arg2)) (m ((d.tc : Thread nD τ).loc main_arg4)) (m ((d.tc : Thread nD τ).loc main_arg5))
          (((occ y b (y (ix2 b n)).toNat : ℝ) : EReal) + ((occ x b (y (ix2 b n)).toNat : ℝ) : EReal)) f := by
  subst hx hy
  rw [M5_v15, M4_v13_1, M3_v12, builtAt_M3]
  refine (whole_apply _ _ _ _ b n f).trans ?_
  congr 1
  exact cntA_real _ _ (hr d).2 _ _ b n

end Cert.KernelIdeal.Run
-- ==== Proof.Histogram.lean ====
/-
  The reference's co-occurrence counts over the extended reals: a table per batch row of how often each id occurs in it, made
  by adding a one at each id's place, and read back at an id's place.
-/
module

public import proofs.«01_k».proof.Proof.Occ
public import proofs.«01_k».proof.Proof.Gen.ReferenceIdeal
public import Idealize.ShloMosaic.Lib.Routing.OpsPair

@[expose] public section

noncomputable section

namespace Cert.ReferenceIdeal.Read

open Cert.ReferenceIdeal Cert.ReferenceIdeal.Gen
open Idealize.ShloMosaic Idealize.ShloMosaic.ValueIdx
open Cert.KernelIdeal.Run (occ)

variable (x : S1024x200.Idx → BitVec 32)

/-- Which entries are ids: those other than −1; -/
def mask : S1024x200.Idx → BitVec 1 := cmpi .ne x (broadcastInDim S1024x200 ![] bcast_S_S1024x200 (constantI S_ 32 4294967295#32))

/-- the ids, zero for an entry that is none; -/
def safe : S1024x200.Idx → BitVec 32 := select (mask x) x (broadcastInDim S1024x200 ![] bcast_S_S1024x200 (id (constantI S_ 32 0#32)))

/-- each entry's batch row; -/
def rows : S1024x200.Idx → BitVec 32 := iotaInDim S1024x200 32 0

/-- each entry's place in a table of a thousand ids per batch row. -/
def places : S1024x200x2.Idx → BitVec 32 :=
  concatenate S1024x200x2 2 [⟨S1024x200x1, broadcastInDim S1024x200x1 ![0, 1] bcast_S1024x200_S1024x200x1_0_1
      (select (cmpi .slt rows (broadcastInDim S1024x200 ![] bcast_S_S1024x200 (constantI S_ 32 0#32)))
        (addi rows (broadcastInDim S1024x200 ![] bcast_S_S1024x200 (constantI S_ 32 1024#32))) rows)⟩,
    ⟨S1024x200x1, broadcastInDim S1024x200x1 ![0, 1] bcast_S1024x200_S1024x200x1_0_1
      (select (cmpi .slt (safe x) (broadcastInDim S1024x200 ![] bcast_S_S1024x200 (constantI S_ 32 0#32)))
        (addi (safe x) (broadcastInDim S1024x200 ![] bcast_S_S1024x200 (constantI S_ 32 1000#32))) (safe x))⟩] concatenates_S1024x200x1_S1024x200x1_S1024x200x2_d2

/-- The counts: a one added at each entry's place. -/
def hist : S1024x1000.Idx → Elt Ideal .f32 :=
  Host.scatterAdd scatter_S1024x1000_S1024x200x2_S1024x200_n_01_01_2
    (broadcastInDim S1024x1000 ![] bcast_S_S1024x1000 (constant (F := Ideal) S_ .f32 0x00000000#32)) (places x) (uitofp (F := Ideal) .f32 (mask x))

/-- A table read at each entry's place. -/
def found (t : S1024x1000.Idx → Elt Ideal .f32) : S1024x200.Idx → Elt Ideal .f32 :=
  Host.gather gather_S1024x1000_S1024x200x2_S1024x200_n_01_n_n_01_2_11 t (places x)

/-! ## At ids in range -/

variable (hx : ∀ j, (x j).toNat < 1000)

include hx

theorem mask_apply (j : S1024x200.Idx) : mask x j = 1#1 := by
  show IntOp.cmpi .ne (x j) 4294967295#32 = 1#1
  have h : x j ≠ 4294967295#32 := fun e => by
    have := hx j
    rw [e] at this
    exact absurd this (by decide)
  show BitVec.ofBool (x j != 4294967295#32) = 1#1
  rw [bne_iff_ne.mpr h]
  rfl

theorem safe_apply (j : S1024x200.Idx) : safe x j = x j := by
  show Scalar.select (mask x j) (x j) 0#32 = x j
  rw [mask_apply x hx]
  rfl

theorem places_id (b : Fin 1024) (n : Fin 200) : places x (ix3 b n 1) = x (ix2 b n) := by
  unfold places
  rw [concatenate_pair_apply_right (2 : Fin S1024x200x2.rank) _ _ concatenates_S1024x200x1_S1024x200x1_S1024x200x2_d2 (ix3 b n 1) rfl rfl (ix3 b n 0)
    (fun a ha => by
      fin_cases a
      · rfl
      · rfl
      · exact absurd rfl ha) rfl]
  refine (broadcastInDim_apply _ _ _ (ix3 b n 0) (ix2 b n) (fun a => by fin_cases a <;> rfl)).trans ?_
  refine (Routing.wrap_of_lt (safe x (ix2 b n)) _ ?_).trans (safe_apply x hx _)
  rw [safe_apply x hx]
  exact (hx _).trans (by decide)

omit hx in
theorem places_row (b : Fin 1024) (n : Fin 200) : places x (ix3 b n 0) = BitVec.ofNat 32 b.val := by
  have hb := b.isLt
  unfold places
  rw [concatenate_pair_apply_left (2 : Fin S1024x200x2.rank) _ _ concatenates_S1024x200x1_S1024x200x1_S1024x200x2_d2 (ix3 b n 0) rfl (ix3 b n 0)
    (fun a => by fin_cases a <;> rfl)]
  refine (broadcastInDim_apply _ _ _ (ix3 b n 0) (ix2 b n) (fun a => by fin_cases a <;> rfl)).trans ?_
  refine Routing.wrap_of_lt (BitVec.ofNat 32 b.val) _ ?_
  rw [BitVec.toNat_ofNat]
  omega

theorem toInt_id (b : Fin 1024) (n : Fin 200) : (places x (ix3 b n 1)).toInt = ((x (ix2 b n)).toNat : ℤ) := by
  rw [places_id x hx, BitVec.toInt_eq_toNat_cond]
  have := hx (ix2 b n)
  rw [if_pos (by omega)]

omit hx in
theorem toInt_row (b : Fin 1024) (n : Fin 200) : (places x (ix3 b n 0)).toInt = (b.val : ℤ) := by
  have hb := b.isLt
  rw [places_row, BitVec.toInt_eq_toNat_cond, BitVec.toNat_ofNat]
  rw [if_pos (by omega)]
  omega

/-- The counts: at an id, how often it occurs in the row. -/
theorem hist_apply (b : Fin 1024) (v : Fin 1000) : hist x (ix2 b v) = ((occ x b v.val : ℝ) : EReal) := by
  show Ideal.ofBits .f32 0x00000000#32 + ∑ j ∈ Finset.univ.filter (fun j => scatter_S1024x1000_S1024x200x2_S1024x200_n_01_01_2.resultIdx? j (places x) = some (ix2 b v)),
    (((mask x j).toNat : ℝ) : EReal) = _
  rw [Ideal.ofBits_zero_f32, zero_add]
  have hl : ∀ (a : Fin 1024) (p : Fin 200), scatter_S1024x1000_S1024x200x2_S1024x200_n_01_01_2.resultIdx? (ix2 a p) (places x) = some (ix2 b v)
      ↔ a = b ∧ (x (ix2 a p)).toNat = v.val := by
    intro a p
    refine (Routing.scatter_lands2 scatter_S1024x1000_S1024x200x2_S1024x200_n_01_01_2 rfl rfl rfl (places x) a p b v).trans ?_
    rw [toInt_row, toInt_id x hx]
    constructor
    · rintro ⟨h1, h2⟩
      exact ⟨Fin.ext (by omega), by omega⟩
    · rintro ⟨rfl, h2⟩
      exact ⟨rfl, by omega⟩
  have hone : ∀ j, (((mask x j).toNat : ℝ) : EReal) = 1 := fun j => by rw [mask_apply x hx]; simp
  rw [Finset.sum_congr rfl fun j _ => hone j, Finset.sum_const]
  have hc : (Finset.univ.filter (fun j => scatter_S1024x1000_S1024x200x2_S1024x200_n_01_01_2.resultIdx? j (places x) = some (ix2 b v))).card = occ x b v.val := by
    symm
    refine Finset.card_bij (fun p _ => ix2 b p) ?_ ?_ ?_
    · intro p hp
      simp only [Finset.mem_filter, Finset.mem_univ, true_and] at hp ⊢
      exact (hl b p).mpr ⟨rfl, hp⟩
    · intro p _ q _ h
      exact congrFun h 1
    · intro j hj
      simp only [Finset.mem_filter, Finset.mem_univ, true_and] at hj
      rw [eq_ix2 j] at hj
      obtain ⟨h1, h2⟩ := (hl (j 0) (j 1)).mp hj
      refine ⟨j 1, ?_, ?_⟩
      · refine Finset.mem_filter.mpr ⟨Finset.mem_univ _, ?_⟩
        rw [← h1]; exact h2
      · rw [← h1]; exact (eq_ix2 j).symm
  rw [hc]
  simp

/-- A table read at an entry's place is the table at its row and id. -/
theorem found_apply (t : S1024x1000.Idx → Elt Ideal .f32) (b : Fin 1024) (n : Fin 200) :
    found x t (ix2 b n) = t (ix2 b ⟨(x (ix2 b n)).toNat, hx _⟩) := by
  have hb := b.isLt
  have hv := hx (ix2 b n)
  unfold found Host.gather
  refine congrArg t (funext fun a => Fin.ext ?_)
  show gather_S1024x1000_S1024x200x2_S1024x200_n_01_n_n_01_2_11.start (ix2 b n) (places x) a + gather_S1024x1000_S1024x200x2_S1024x200_n_01_n_n_01_2_11.batchCoord (ix2 b n) a + gather_S1024x1000_S1024x200x2_S1024x200_n_01_n_n_01_2_11.offCoord (ix2 b n) a = _
  have hm : a ∈ gather_S1024x1000_S1024x200x2_S1024x200_n_01_n_n_01_2_11.collapsedSliceDims := by fin_cases a <;> decide
  have hs : a ∈ gather_S1024x1000_S1024x200x2_S1024x200_n_01_n_n_01_2_11.startIndexMap := hm
  rw [GatherDims.batchCoord_eq_zero _ _ _ List.not_mem_nil, GatherDims.offCoord_eq_zero _ _ _ (fun h => ((GatherDims.mem_sKept _ _).mp h).1 hm)]
  unfold GatherDims.start
  rw [dif_pos hs]
  match a, hs with
  | ⟨0, _⟩, hs =>
    have hsi : gather_S1024x1000_S1024x200x2_S1024x200_n_01_n_n_01_2_11.siIdx (ix2 b n) ⟨List.idxOf (0 : Fin 2) gather_S1024x1000_S1024x200x2_S1024x200_n_01_n_n_01_2_11.startIndexMap, List.idxOf_lt_length_iff.2 hs⟩ = ix3 b n 0 := by
      funext c
      refine Fin.ext ?_
      match c with
      | ⟨0, _⟩ => rfl
      | ⟨1, _⟩ => rfl
      | ⟨2, _⟩ => rfl
    show min (places x (gather_S1024x1000_S1024x200x2_S1024x200_n_01_n_n_01_2_11.siIdx (ix2 b n) ⟨List.idxOf (0 : Fin 2) gather_S1024x1000_S1024x200x2_S1024x200_n_01_n_n_01_2_11.startIndexMap, List.idxOf_lt_length_iff.2 hs⟩)).toInt.toNat 1023 + 0 + 0 = b.val
    rw [hsi, toInt_row]
    omega
  | ⟨1, _⟩, hs =>
    have hsi : gather_S1024x1000_S1024x200x2_S1024x200_n_01_n_n_01_2_11.siIdx (ix2 b n) ⟨List.idxOf (1 : Fin 2) gather_S1024x1000_S1024x200x2_S1024x200_n_01_n_n_01_2_11.startIndexMap, List.idxOf_lt_length_iff.2 hs⟩ = ix3 b n 1 := by
      funext c
      refine Fin.ext ?_
      match c with
      | ⟨0, _⟩ => rfl
      | ⟨1, _⟩ => rfl
      | ⟨2, _⟩ => rfl
    show min (places x (gather_S1024x1000_S1024x200x2_S1024x200_n_01_n_n_01_2_11.siIdx (ix2 b n) ⟨List.idxOf (1 : Fin 2) gather_S1024x1000_S1024x200x2_S1024x200_n_01_n_n_01_2_11.startIndexMap, List.idxOf_lt_length_iff.2 hs⟩)).toInt.toNat 999 + 0 + 0 = (x (ix2 b n)).toNat
    rw [hsi, toInt_id x hx]
    omega

/-- So the counts of one array read at the ids of another are the occurrences of each id in its row. -/
theorem found_hist (y : S1024x200.Idx → BitVec 32) (hy : ∀ j, (y j).toNat < 1000) (b : Fin 1024) (n : Fin 200) :
    found x (hist y) (ix2 b n) = ((occ y b (x (ix2 b n)).toNat : ℝ) : EReal) := by
  rw [found_apply x hx, hist_apply y hy]

end Cert.ReferenceIdeal.Read
-- ==== Proof.Reference.lean ====
/-
  The reference's two results over the extended reals, entry by entry: the two counts at an entry's id are put through the two
  layers, one after the other, and the two outcomes are added.
-/
module

public import proofs.«01_k».proof.Proof.Histogram
public import proofs.«01_k».proof.Proof.Gen.ReferenceIdeal.Run
public import Idealize.ShloMosaic.Lib.ValueLayout

@[expose] public section

noncomputable section

namespace Cert.ReferenceIdeal.Read

open Cert.ReferenceIdeal Cert.ReferenceIdeal.Gen
open Idealize.ShloMosaic Idealize.ShloMosaic.ValueIdx
open Cert.KernelIdeal.Run (occ)

variable (W1 : S1x64.Idx → Elt Ideal .f32) (b1 : S64.Idx → Elt Ideal .f32) (W2 : S64x64.Idx → Elt Ideal .f32) (b2 : S64.Idx → Elt Ideal .f32)

/-- Two tables of counts side by side, zero at an entry that is no id. -/
def both (k : S1024x200.Idx → BitVec 1) (s t : S1024x200.Idx → Elt Ideal .f32) : S1024x200x2.Idx → Elt Ideal .f32 :=
  select (broadcastInDim S1024x200x2 ![0, 1, 2] bcast_S1024x200x1_S1024x200x2_0_1_2 (broadcastInDim S1024x200x1 ![0, 1] bcast_S1024x200_S1024x200x1_0_1 k))
    (concatenate S1024x200x2 2 [⟨S1024x200x1, broadcastInDim S1024x200x1 ![0, 1] bcast_S1024x200_S1024x200x1_0_1 s⟩,
      ⟨S1024x200x1, broadcastInDim S1024x200x1 ![0, 1] bcast_S1024x200_S1024x200x1_0_1 t⟩] concatenates_S1024x200x1_S1024x200x1_S1024x200x2_d2)
    (broadcastInDim S1024x200x2 ![] bcast_S_S1024x200x2 (id (constant (F := Ideal) S_ .f32 0x00000000#32)))

/-- A vector of 64 spread over the entries and the two counts. -/
def over (v : S64.Idx → Elt Ideal .f32) : S1024x200x2x64.Idx → Elt Ideal .f32 :=
  broadcastInDim S1024x200x2x64 ![0, 1, 2, 3] bcast_S1x1x1x64_S1024x200x2x64_0_1_2_3 (broadcastInDim S1x1x1x64 ![3] bcast_S64_S1x1x1x64_3 v)

/-- The first layer. -/
def hidden (c : S1024x200x2.Idx → Elt Ideal .f32) : S1024x200x2x64.Idx → Elt Ideal .f32 :=
  maximumf (φ := .f32) (addf (φ := .f32) (mulf (φ := .f32) (broadcastInDim S1024x200x2x64 ![0, 1, 2, 3] bcast_S1024x200x2x1_S1024x200x2x64_0_1_2_3
      (broadcastInDim S1024x200x2x1 ![0, 1, 2] bcast_S1024x200x2_S1024x200x2x1_0_1_2 c)) (over (shapeCast _ W1 shapeCasts_S1x64_S64))) (over b1))
    (broadcastInDim S1024x200x2x64 ![] bcast_S_S1024x200x2x64 (constant (F := Ideal) S_ .f32 0x00000000#32))

/-- The second layer, and the sum over the two counts. -/
def layers (c : S1024x200x2.Idx → Elt Ideal .f32) : S1024x200x64.Idx → Elt Ideal .f32 :=
  Host.reduceAdd (F := Ideal) (φ := .f32) (addf (φ := .f32) (Host.dotGeneral (F := Ideal) (φ₁ := .f32) (φ₂ := .f32) dot_S1024x200x2x64_S64x64_S1024x200x2x64_3_0_012_1_n_n none (hidden W1 b1 c) W2) (over b2))
    (constant (F := Ideal) S_ .f32 0x00000000#32) reducesTo_S1024x200x2x64_S1024x200x64_d2 h_S_

/-- The reference's results are these. -/
theorem run_layers (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v119)
        = layers (m ((c.tc : Thread nD τ).loc main_arg2)) (m ((c.tc : Thread nD τ).loc main_arg3)) (m ((c.tc : Thread nD τ).loc main_arg4)) (m ((c.tc : Thread nD τ).loc main_arg5))
            (both (mask (m ((c.tc : Thread nD τ).loc main_arg0)))
              (found (m ((c.tc : Thread nD τ).loc main_arg0)) (hist (m ((c.tc : Thread nD τ).loc main_arg0))))
              (found (m ((c.tc : Thread nD τ).loc main_arg0)) (hist (m ((c.tc : Thread nD τ).loc main_arg1)))))
      ∧ r.2.mem ((c.tc : Thread nD τ).loc main_v134)
        = layers (m ((c.tc : Thread nD τ).loc main_arg2)) (m ((c.tc : Thread nD τ).loc main_arg3)) (m ((c.tc : Thread nD τ).loc main_arg4)) (m ((c.tc : Thread nD τ).loc main_arg5))
            (both (mask (m ((c.tc : Thread nD τ).loc main_arg1)))
              (found (m ((c.tc : Thread nD τ).loc main_arg1)) (hist (m ((c.tc : Thread nD τ).loc main_arg1))))
              (found (m ((c.tc : Thread nD τ).loc main_arg1)) (hist (m ((c.tc : Thread nD τ).loc main_arg0))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨⟨(h c).1, (h c).2.1⟩, (h c).2.2⟩) (Value.run (F := Ideal) m ρ)

/-! ## The pieces at an entry -/

theorem both_left (k : S1024x200.Idx → BitVec 1) (s t : S1024x200.Idx → Elt Ideal .f32) (b : Fin 1024) (n : Fin 200) (hk : k (ix2 b n) = 1#1) :
    both k s t (ix3 b n 0) = s (ix2 b n) := by
  unfold both
  rw [select_apply, broadcastInDim_apply _ _ _ (ix3 b n 0) (ix3 b n 0) (fun a => by fin_cases a <;> rfl),
    broadcastInDim_apply _ _ _ (ix3 b n 0) (ix2 b n) (fun a => by fin_cases a <;> rfl), hk]
  rw [concatenate_pair_apply_left (2 : Fin S1024x200x2.rank) _ _ concatenates_S1024x200x1_S1024x200x1_S1024x200x2_d2 (ix3 b n 0) rfl (ix3 b n 0)
    (fun a => by fin_cases a <;> rfl)]
  show broadcastInDim S1024x200x1 ![0, 1] bcast_S1024x200_S1024x200x1_0_1 s (ix3 b n 0) = _
  exact broadcastInDim_apply _ _ _ (ix3 b n 0) (ix2 b n) (fun a => by fin_cases a <;> rfl)

theorem both_right (k : S1024x200.Idx → BitVec 1) (s t : S1024x200.Idx → Elt Ideal .f32) (b : Fin 1024) (n : Fin 200) (hk : k (ix2 b n) = 1#1) :
    both k s t (ix3 b n 1) = t (ix2 b n) := by
  unfold both
  rw [select_apply, broadcastInDim_apply _ _ _ (ix3 b n 1) (ix3 b n 0) (fun a => by fin_cases a <;> rfl),
    broadcastInDim_apply _ _ _ (ix3 b n 0) (ix2 b n) (fun a => by fin_cases a <;> rfl), hk]
  rw [concatenate_pair_apply_right (2 : Fin S1024x200x2.rank) _ _ concatenates_S1024x200x1_S1024x200x1_S1024x200x2_d2 (ix3 b n 1) rfl rfl (ix3 b n 0)
    (fun a ha => by
      fin_cases a
      · rfl
      · rfl
      · exact absurd rfl ha) rfl]
  show broadcastInDim S1024x200x1 ![0, 1] bcast_S1024x200_S1024x200x1_0_1 t (ix3 b n 0) = _
  exact broadcastInDim_apply _ _ _ (ix3 b n 0) (ix2 b n) (fun a => by fin_cases a <;> rfl)

theorem over_apply (v : S64.Idx → Elt Ideal .f32) (b : Fin 1024) (n : Fin 200) (k : Fin 2) (f : Fin 64) : over v (ix4 b n k f) = v (ix1 f) := by
  unfold over
  rw [broadcastInDim_apply _ _ _ (ix4 b n k f) (ix4 0 0 0 f) (fun a => by fin_cases a <;> rfl)]
  exact broadcastInDim_apply _ _ _ (ix4 0 0 0 f) (ix1 f) (fun a => by fin_cases a; rfl)

theorem hidden_apply (c : S1024x200x2.Idx → Elt Ideal .f32) (b : Fin 1024) (n : Fin 200) (k : Fin 2) (j : Fin 64) :
    hidden W1 b1 c (ix4 b n k j) = (max ((c (ix3 b n k) : EReal) * W1 (ix2 0 j) + b1 (ix1 j)) 0 : EReal) := by
  unfold hidden
  rw [maximumf_apply, addf_apply, mulf_apply, over_apply, over_apply, broadcastInDim_apply _ _ _ (ix4 b n k j) (ix4 b n k 0) (fun a => by fin_cases a <;> rfl),
    broadcastInDim_apply _ _ _ (ix4 b n k 0) (ix3 b n k) (fun a => by fin_cases a <;> rfl), shapeCast_1a_a_apply]
  show max _ (Ideal.ofBits .f32 0x00000000#32) = _
  rw [Ideal.ofBits_zero_f32]

theorem dot_apply (x : S1024x200x2x64.Idx → Elt Ideal .f32) (b : Fin 1024) (n : Fin 200) (k : Fin 2) (f : Fin 64) :
    (Host.dotGeneral (F := Ideal) (φ₁ := .f32) (φ₂ := .f32) dot_S1024x200x2x64_S64x64_S1024x200x2x64_3_0_012_1_n_n none x W2 : FVec Ideal S1024x200x2x64 .f32) (ix4 b n k f)
      = (∑ j : Fin 64, (x (ix4 b n k j) : EReal) * W2 (ix2 j f) : EReal) := by
  refine (Ideal.dotGeneral_apply _ _ _ _ _ _).trans ?_
  rw [← Equiv.sum_comp (contrEquiv1 dot_S1024x200x2x64_S64x64_S1024x200x2x64_3_0_012_1_n_n 64 rfl rfl).symm]
  refine Finset.sum_congr rfl fun j _ => ?_
  have e := contrEquiv1_symm_val dot_S1024x200x2x64_S64x64_S1024x200x2x64_3_0_012_1_n_n 64 rfl rfl j
  have el : dot_S1024x200x2x64_S64x64_S1024x200x2x64_3_0_012_1_n_n.lhsIdx (ix4 b n k f)
      ((contrEquiv1 dot_S1024x200x2x64_S64x64_S1024x200x2x64_3_0_012_1_n_n 64 rfl rfl).symm j) = ix4 b n k j := by
    funext a
    refine Fin.ext ?_
    match a with
    | ⟨0, _⟩ => rfl
    | ⟨1, _⟩ => rfl
    | ⟨2, _⟩ => rfl
    | ⟨3, _⟩ => exact e
  have er : dot_S1024x200x2x64_S64x64_S1024x200x2x64_3_0_012_1_n_n.rhsIdx (ix4 b n k f)
      ((contrEquiv1 dot_S1024x200x2x64_S64x64_S1024x200x2x64_3_0_012_1_n_n 64 rfl rfl).symm j) = ix2 j f := by
    funext a
    refine Fin.ext ?_
    match a with
    | ⟨0, _⟩ => exact e
    | ⟨1, _⟩ => rfl
  rw [el, er]

theorem layers_apply (c : S1024x200x2.Idx → Elt Ideal .f32) (b : Fin 1024) (n : Fin 200) (f : Fin 64) :
    layers W1 b1 W2 b2 c (ix3 b n f)
      = (∑ k : Fin 2, ((∑ j : Fin 64, max ((c (ix3 b n k) : EReal) * W1 (ix2 0 j) + b1 (ix1 j)) 0 * W2 (ix2 j f)) + b2 (ix1 f)) : EReal) := by
  have hred : S1024x200x2x64.Reduces [2] S1024x200x64 := by decide
  unfold layers
  show Ideal.hostReduceAdd reducesTo_S1024x200x2x64_S1024x200x64_d2 _ (Ideal.ofBits .f32 0x00000000#32) (ix3 b n f) = _
  rw [Ideal.hostReduceAdd_single reducesTo_S1024x200x2x64_S1024x200x64_d2 hred, Ideal.ofBits_zero_f32, zero_add]
  refine Finset.sum_congr rfl fun (k : Fin 2) _ => ?_
  have el : hred.lift (ix3 b n f) k = ix4 b n k f := by
    funext a
    refine Fin.ext ?_
    match a with
    | ⟨0, _⟩ => rfl
    | ⟨1, _⟩ => rfl
    | ⟨2, _⟩ => rfl
    | ⟨3, _⟩ => rfl
  rw [el, addf_apply, over_apply, dot_apply]
  refine congrArg (· + _) (Finset.sum_congr rfl fun j _ => ?_)
  rw [hidden_apply]

/-- A result at ids in range: the occurrences of an entry's id in its row of the one array and of the other, each put through
    the two layers, added. -/
theorem result_apply (x y : S1024x200.Idx → BitVec 32) (hx : ∀ j, (x j).toNat < 1000) (hy : ∀ j, (y j).toNat < 1000) (b : Fin 1024) (n : Fin 200) (f : Fin 64) :
    layers W1 b1 W2 b2 (both (mask x) (found x (hist x)) (found x (hist y))) (ix3 b n f)
      = (((∑ j : Fin 64, max (((occ x b (x (ix2 b n)).toNat : ℝ) : EReal) * W1 (ix2 0 j) + b1 (ix1 j)) 0 * W2 (ix2 j f)) + b2 (ix1 f))
        + ((∑ j : Fin 64, max (((occ y b (x (ix2 b n)).toNat : ℝ) : EReal) * W1 (ix2 0 j) + b1 (ix1 j)) 0 * W2 (ix2 j f)) + b2 (ix1 f)) : EReal) := by
  rw [layers_apply, Fin.sum_univ_two, both_left _ _ _ b n (mask_apply x hx _), both_right _ _ _ b n (mask_apply x hx _), found_hist x hx x hx, found_hist x hx y hy]

end Cert.ReferenceIdeal.Read
-- ==== Proof.Agree.lean ====
/-
  The kernel's and the reference's results are the same numbers over the extended reals, where the first bias is zero: a count is
  not negative, so the first layer is the count times the positive part of its weights, and a finite factor that is not negative
  distributes over any sum.
-/
module

public import proofs.«01_k».proof.Proof.Results
public import proofs.«01_k».proof.Proof.Reference

@[expose] public section

noncomputable section

namespace Cert.KernelIdeal.Run

open Cert.KernelIdeal Cert.KernelIdeal.Gen
open Idealize.ShloMosaic Idealize.ShloMosaic.ValueIdx

/-! ## The equation -/

/-- The positive part of a count's multiple is the count's multiple of the positive part. -/
theorem pos_part (k : ℕ) (w : EReal) : max (((k : ℝ) : EReal) * w + 0) 0 = ((k : ℝ) : EReal) * max w 0 := by
  have hk : (0 : EReal) ≤ ((k : ℝ) : EReal) := EReal.coe_nonneg.mpr (Nat.cast_nonneg k)
  rw [add_zero]
  rcases le_total w 0 with h | h
  · rw [max_eq_right h, mul_zero, max_eq_right (mul_nonpos_of_nonneg_of_nonpos hk h)]
  · rw [max_eq_left h, max_eq_left (mul_nonneg hk h)]

/-- A count comes out of a sum. -/
theorem count_sum (k : ℕ) (s : Finset (Fin 64)) (g : Fin 64 → EReal) : ∑ j ∈ s, ((k : ℝ) : EReal) * g j = ((k : ℝ) : EReal) * ∑ j ∈ s, g j := by
  have hk : (0 : EReal) ≤ ((k : ℝ) : EReal) := EReal.coe_nonneg.mpr (Nat.cast_nonneg k)
  induction s using Finset.induction_on with
  | empty => simp
  | insert a s ha ih => rw [Finset.sum_insert ha, Finset.sum_insert ha, ih, EReal.left_distrib_of_nonneg_of_ne_top hk (EReal.coe_ne_top _)]

variable (W1 : S1x64.Idx → EReal) (b1 : S64.Idx → EReal) (W2 : S64x64.Idx → EReal) (b2 : S64.Idx → EReal)

/-- The two layers at a count, the first bias zero: the count times the second layer's column. -/
theorem layers_count (hb : ∀ j, b1 j = 0) (k : ℕ) (f : Fin 64) :
    ∑ j : Fin 64, max (((k : ℝ) : EReal) * W1 (ix2 0 j) + b1 (ix1 j)) 0 * W2 (ix2 j f) = ((k : ℝ) : EReal) * vcol W1 W2 f := by
  unfold vcol
  rw [← count_sum]
  refine Finset.sum_congr rfl fun j _ => ?_
  rw [hb, pos_part, mul_assoc]

/-- Two counts through the layers, added, are the sum of the counts through them at once. -/
theorem layers_two (hb : ∀ j, b1 j = 0) (k l : ℕ) (f : Fin 64) :
    ((∑ j : Fin 64, max (((k : ℝ) : EReal) * W1 (ix2 0 j) + b1 (ix1 j)) 0 * W2 (ix2 j f)) + b2 (ix1 f))
      + ((∑ j : Fin 64, max (((l : ℝ) : EReal) * W1 (ix2 0 j) + b1 (ix1 j)) 0 * W2 (ix2 j f)) + b2 (ix1 f))
      = entry W1 W2 b2 (((k : ℝ) : EReal) + ((l : ℝ) : EReal)) f := by
  have hk : (0 : EReal) ≤ ((k : ℝ) : EReal) := EReal.coe_nonneg.mpr (Nat.cast_nonneg k)
  have hl : (0 : EReal) ≤ ((l : ℝ) : EReal) := EReal.coe_nonneg.mpr (Nat.cast_nonneg l)
  have h2 : (2 : EReal) * b2 (ix1 f) = b2 (ix1 f) + b2 (ix1 f) := by
    rw [← one_add_one_eq_two, EReal.right_distrib_of_nonneg zero_le_one zero_le_one, one_mul]
  rw [layers_count W1 b1 W2 hb, layers_count W1 b1 W2 hb]
  unfold entry
  rw [h2, EReal.left_distrib_of_nonneg hk hl, mul_comm (vcol W1 W2 f), mul_comm (vcol W1 W2 f), add_add_add_comm]

/-! ## The programs -/

/-- The first bias is zero, by the condition that says so. -/
theorem bias_zero (m : (ℓ : Loc nD τ sig) → Buf (Elt Ideal) ℓ) (h : Cert.Pre_KernelIdeal_ids_in_range_no_bias m) (d : Dev nD) (b1 : S64.Idx → EReal)
    (hb : b1 = m ((d.tc : Thread nD τ).loc main_arg3)) (j : S64.Idx) : b1 j = 0 := by
  have e : Ideal.cmp .oeq (b1 j) (Ideal.ofBits .f32 0x00000000#32) = 1#1 := by
    subst hb
    exact congrFun (h d).2 j
  rw [Ideal.ofBits_zero_f32] at e
  by_contra hne
  have e' : BitVec.ofBool (decide (b1 j = 0)) = 1#1 := e
  rw [decide_eq_false hne] at e'
  exact absurd e' (by decide)

/-- The kernel's and the reference's results are equal over the extended reals, at every id in range and a first bias of zero. -/
theorem algebraic : Cert.algebraic_KernelIdeal_ReferenceIdeal_pre_ids_in_range_no_bias := by
  intro m g m' g' h hm
  have hr := inRange_of_no_bias m h
  refine ⟨fun c => M5 m hr c (rf main_v14), fun c => M5 m hr c (rf main_v15), ?_, ?_⟩
  · exact (θ_run Cert.KernelIdeal.defs _ _).mono (fun _ h c => ⟨(h.1 c).1.1, (h.1 c).1.2, (h.1 c).2⟩) (run_main (F := Ideal) m g hr)
  · refine (θ_run Cert.ReferenceIdeal.defs _ _).mono (fun _ h' c => ⟨(h' c).1.1.trans ?_, (h' c).1.2.trans ?_, (h' c).2⟩)
      (Cert.ReferenceIdeal.Read.run_layers m' g')
    all_goals
      obtain ⟨e0, e1, e2, e3, e4, e5⟩ := hm c
      rw [e0, e1, e2, e3, e4, e5]
      funext q
      rw [eq_ix3 q]
    · refine (Cert.ReferenceIdeal.Read.result_apply _ _ _ _ _ _ (hr c).1 (hr c).2 _ _ _).trans ?_
      refine (layers_two _ _ _ _ (bias_zero m h c _ rfl) _ _ _).trans ?_
      exact (v14_apply m hr c _ _ _ _ _ rfl rfl).symm
    · refine (Cert.ReferenceIdeal.Read.result_apply _ _ _ _ _ _ (hr c).2 (hr c).1 _ _ _).trans ?_
      refine (layers_two _ _ _ _ (bias_zero m h c _ rfl) _ _ _).trans ?_
      exact (v15_apply m hr c _ _ _ _ _ rfl rfl).symm

end Cert.KernelIdeal.Run
-- ==== Proof.lean ====
/-
  The claims of this directory, put together: each is proved in one of the modules under `Proof/`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Pre_ids_in_range
public import proofs.«01_k».proof.Proof.Gen.Pre_ids_in_range_no_bias
public import proofs.«01_k».proof.Proof.Frames
public import proofs.«01_k».proof.Proof.Agree

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_ids_in_range.Gen.facts,
    Cert.Pre_ids_in_range_no_bias.Gen.facts, Cert.KernelIdeal.Run.frame_kernel, Cert.KernelIdeal.Run.frame_ideal,
    Cert.KernelIdeal.Run.frame_no_bias, Cert.KernelIdeal.Run.frame_reference, Cert.KernelIdeal.Run.frame_reference_no_bias, trivial,
    Cert.KernelIdeal.Run.algebraic⟩

end Cert.Proof

end
